-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x8192 : Shape := ⟨2, ![1024, 8192]⟩
abbrev S1x2048x8x128 : Shape := ⟨4, ![1, 2048, 8, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  bcast_S_S1x2048x8x128 : S_.BroadcastsInDim S1x2048x8x128 (![] : Fin 0 → Fin S1x2048x8x128.rank)

variable [Facts]

def fn {F : FTy → Type} [FloatOps F] (main_arg0 : FVec F S1x2048x1024 .bf16) (main_arg1 : FVec F S1024x8192 .bf16) (main_arg2 : FVec F S1x2048x8x128 .bf16) (main_arg3 : FVec F S1x2048x8x128 .bf16) (main_arg4 : FVec F S8192x1024 .bf16) : IVec S1x2048x1024 1 × IVec S1024x8192 1 × IVec S1x2048x8x128 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  let main_v6 : FVec F S1x2048x8x128 .bf16 := Host.absf main_arg2
  let main_cst_1 : FVec F S_ .bf16 := constant S_ .bf16 0x7F80#16
  let main_v7 : FVec F S1x2048x8x128 .bf16 := broadcastInDim S1x2048x8x128 ![] bcast_S_S1x2048x8x128 main_cst_1
  let main_v8 : IVec S1x2048x8x128 1 := cmpf .olt main_v6 main_v7
  (main_v2, main_v5, main_v8)
-- ==== Pre_finite_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  bcast_S_S1x2048x64x128 : S_.BroadcastsInDim S1x2048x64x128 (![] : Fin 0 → Fin S1x2048x64x128.rank)

variable [Facts]

def fn {F : FTy → Type} [FloatOps F] (main_arg0 : FVec F S1x2048x1024 .bf16) (main_arg1 : FVec F S1024x8192 .bf16) (main_arg2 : FVec F S1x2048x64x128 .bf16) (main_arg3 : FVec F S1x2048x64x128 .bf16) (main_arg4 : FVec F S8192x1024 .bf16) : IVec S1x2048x1024 1 × IVec S1024x8192 1 × IVec S1x2048x64x128 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  let main_v6 : FVec F S1x2048x64x128 .bf16 := Host.absf main_arg2
  let main_cst_1 : FVec F S_ .bf16 := constant S_ .bf16 0x7F80#16
  let main_v7 : FVec F S1x2048x64x128 .bf16 := broadcastInDim S1x2048x64x128 ![] bcast_S_S1x2048x64x128 main_cst_1
  let main_v8 : IVec S1x2048x64x128 1 := cmpf .olt main_v6 main_v7
  (main_v2, main_v5, main_v8)
-- ==== Kernel.lean ====
abbrev S1x2048x1024 : Shape := ⟨3, ![1, 2048, 1024]⟩
abbrev S1024x8192 : Shape := ⟨2, ![1024, 8192]⟩
abbrev S1x2048x8x128 : Shape := ⟨4, ![1, 2048, 8, 128]⟩
abbrev S8192x1024 : Shape := ⟨2, ![8192, 1024]⟩
abbrev S_ : Shape := ⟨0, ![]⟩
abbrev S2048x1024 : Shape := ⟨2, ![2048, 1024]⟩
abbrev S1024x1024 : Shape := ⟨2, ![1024, 1024]⟩
abbrev S2048x8x128 : Shape := ⟨3, ![2048, 8, 128]⟩
abbrev S8x2048x128 : Shape := ⟨3, ![8, 2048, 128]⟩
abbrev S256x1024 : Shape := ⟨2, ![256, 1024]⟩
abbrev S1024x128 : Shape := ⟨2, ![1024, 128]⟩
abbrev S1x2048x128 : Shape := ⟨3, ![1, 2048, 128]⟩
abbrev S128x1024 : Shape := ⟨2, ![128, 1024]⟩
abbrev S256x128 : Shape := ⟨2, ![256, 128]⟩
abbrev S256x1 : Shape := ⟨2, ![256, 1]⟩
abbrev S2048x128 : Shape := ⟨2, ![2048, 128]⟩
abbrev S256x2048 : Shape := ⟨2, ![256, 2048]⟩
abbrev S1x2048 : Shape := ⟨2, ![1, 2048]⟩
abbrev S256 : Shape := ⟨1, ![256]⟩
abbrev S1x256x128 : Shape := ⟨3, ![1, 256, 128]⟩
abbrev S1x512x128 : Shape := ⟨3, ![1, 512, 128]⟩
abbrev S512x128 : Shape := ⟨2, ![512, 128]⟩
abbrev S256x256 : Shape := ⟨2, ![256, 256]⟩
abbrev S256x512 : Shape := ⟨2, ![256, 512]⟩
abbrev S256x768 : Shape := ⟨2, ![256, 768]⟩
abbrev S1x256 : Shape := ⟨2, ![1, 256]⟩
abbrev S1x512 : Shape := ⟨2, ![1, 512]⟩
abbrev S1x768 : Shape := ⟨2, ![1, 768]⟩
abbrev S768x128 : Shape := ⟨2, ![768, 128]⟩
abbrev S3584x1024 : Shape := ⟨2, ![3584, 1024]⟩
abbrev S6 : Shape := ⟨1, ![6]⟩
abbrev S1 : Shape := ⟨1, ![1]⟩
abbrev S512x1024 : Shape := ⟨2, ![512, 1024]⟩

abbrev nBuf : Space → Nat
  | .hbm => 37
  | .vmem => 16
  | .smem => 0
  | _ => 0

abbrev bufTy : (tb : Table) → Fin (tcTables nBuf tb) → BufTy
  | .hbm, ⟨0, _⟩ => ⟨S1x2048x1024, .bf16⟩
  | .hbm, ⟨1, _⟩ => ⟨S1024x8192, .bf16⟩
  | .hbm, ⟨2, _⟩ => ⟨S1x2048x8x128, .bf16⟩
  | .hbm, ⟨3, _⟩ => ⟨S1x2048x8x128, .bf16⟩
  | .hbm, ⟨4, _⟩ => ⟨S8192x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1024x1024, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024x1024, .bf16⟩
  | .hbm, ⟨30, _⟩ => ⟨S2048x8x128, .bf16⟩
  | .hbm, ⟨31, _⟩ => ⟨S8x2048x128, .bf16⟩
  | .hbm, ⟨32, _⟩ => ⟨S2048x8x128, .bf16⟩
  | .hbm, ⟨33, _⟩ => ⟨S8x2048x128, .bf16⟩
  | .hbm, ⟨34, _⟩ => ⟨S2048x1024, .f32⟩
  | .hbm, ⟨35, _⟩ => ⟨S2048x1024, .f32⟩
  | .hbm, ⟨36, _⟩ => ⟨S1x2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x128, .bf16⟩
  | .local _ .vmem, ⟨3, _⟩ => ⟨S1024x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S128x1024, .bf16⟩
  | .local _ .vmem, ⟨9, _⟩ => ⟨S128x1024, .bf16⟩
  | .local _ .vmem, ⟨10, _⟩ => ⟨S256x1024, .f32⟩
  | .local _ .vmem, ⟨11, _⟩ => ⟨S256x1024, .f32⟩
  | .local _ .vmem, ⟨12, _⟩ => ⟨S2048x1024, .f32⟩
  | .local _ .vmem, ⟨13, _⟩ => ⟨S2048x1024, .f32⟩
  | .local _ .vmem, ⟨14, _⟩ => ⟨S3584x1024, .bf16⟩
  | .local _ .vmem, ⟨15, _⟩ => ⟨S3584x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 2 → Bool
  | ⟨0, _⟩ => true
  | ⟨1, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 2 26 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev barrier0 : Sem sig := 1

abbrev nD : Nat := 8
abbrev τ : Topo := Topo.v7x

variable {F : FTy → Type} [FloatOps F]

abbrev grid0 : Pipeline.Grid := ⟨2, ![8, 8], ![false, false]⟩

def k0_cond3 (i : grid0.Coords) : BitVec 1 :=
  let arg0 : BitVec 32 := BitVec.ofNat 32 (i 0).val
  let c0_i32_6 : BitVec 32 := 0#32
  let v16 : BitVec 1 := Scalar.cmpi .sgt arg0 c0_i32_6
  let v17 : BitVec 32 := Scalar.extui v16
  let c0_i32_7 : BitVec 32 := 0#32
  let v18 : BitVec 1 := Scalar.cmpi .ne v17 c0_i32_7
  v18

def k0_mult1 (i : grid0.Coords) : BitVec 32 :=
  let c1536_i32 : BitVec 32 := 1536#32
  let c256_i32_9 : BitVec 32 := 256#32
  let arg0 : BitVec 32 := BitVec.ofNat 32 (i 0).val
  let c256_i32_8 : BitVec 32 := 256#32
  let v19 : BitVec 32 := Scalar.muli arg0 c256_i32_8
  let c128_i32 : BitVec 32 := 128#32
  let v20 : BitVec 32 := Scalar.subi v19 c128_i32
  let v21 : BitVec 32 := Scalar.maxsi c256_i32_9 v20
  let v22 : BitVec 32 := Scalar.minsi c1536_i32 v21
  v22
def k0_off1 (i : grid0.Coords) : Fin 3 → Nat :=
  let c0_16 : Index := 0#32
  let c1536_i32 : BitVec 32 := 1536#32
  let c256_i32_9 : BitVec 32 := 256#32
  let arg0 : BitVec 32 := BitVec.ofNat 32 (i 0).val
  let c256_i32_8 : BitVec 32 := 256#32
  let v19 : BitVec 32 := Scalar.muli arg0 c256_i32_8
  let c128_i32 : BitVec 32 := 128#32
  let v20 : BitVec 32 := Scalar.subi v19 c128_i32
  let v21 : BitVec 32 := Scalar.maxsi c256_i32_9 v20
  let v22 : BitVec 32 := Scalar.minsi c1536_i32 v21
  let v23 : BitVec 32 := v22
  let v28 : Index := Scalar.indexCast v23
  let c0_17 : Index := 0#32
  ![0, v28.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_4 : BitVec 32 := 0#32
  let v13 : BitVec 1 := Scalar.cmpi .eq arg0 c0_i32_4
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k1_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_4 : BitVec 32 := 1#32
  let v9 : BitVec 32 := Scalar.muli v4 c1_i32_4
  let v10 : BitVec 32 := Scalar.addi c0_i32_5 v9
  v10.toNat
def k1_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k1_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_12 : BitVec 32 := 0#32
  let v16 : BitVec 32 := Scalar.andi v2 c0_i32_12
  let c4_i32_13 : BitVec 32 := 4#32
  let v17 : BitVec 32 := Scalar.xori v2 c4_i32_13
  let c4_i32_14 : BitVec 32 := 4#32
  let v18 : BitVec 32 := Scalar.andi v17 c4_i32_14
  let v19 : BitVec 32 := Scalar.ori v16 v18
  let c256_i32 : BitVec 32 := 256#32
  let v20 : BitVec 32 := Scalar.muli v19 c256_i32
  let v24 : Index := Scalar.indexCast v20
  let c0_17 : Index := 0#32
  ![v24.toNat, 0]
def k1_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v17 : BitVec 32 := Scalar.xori v2 c4_i32_13
  let c1_i32_22 : BitVec 32 := 1#32
  let v31 : BitVec 32 := Scalar.muli v17 c1_i32_22
  let v32 : BitVec 32 := Scalar.addi c0_i32_23 v31
  v32.toNat
def k1_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_12 : BitVec 32 := 0#32
  let v16 : BitVec 32 := Scalar.andi v2 c0_i32_12
  let c4_i32_15 : BitVec 32 := 4#32
  let v21 : BitVec 32 := Scalar.andi v2 c4_i32_15
  let v22 : BitVec 32 := Scalar.ori v16 v21
  let c256_i32_16 : BitVec 32 := 256#32
  let v23 : BitVec 32 := Scalar.muli v22 c256_i32_16
  let v49 : Index := Scalar.indexCast v23
  let c0_43 : Index := 0#32
  ![v49.toNat, 0]
def k1_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v57 : BitVec 32 := Scalar.andi v2 c4_i32_47
  let c2_i32_48 : BitVec 32 := 2#32
  let v58 : BitVec 32 := Scalar.xori v2 c2_i32_48
  let c2_i32_49 : BitVec 32 := 2#32
  let v59 : BitVec 32 := Scalar.andi v58 c2_i32_49
  let v60 : BitVec 32 := Scalar.ori v57 v59
  let c256_i32_50 : BitVec 32 := 256#32
  let v61 : BitVec 32 := Scalar.muli v60 c256_i32_50
  let v65 : Index := Scalar.indexCast v61
  let c0_53 : Index := 0#32
  ![v65.toNat, 0]
def k1_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_48 : BitVec 32 := 2#32
  let v58 : BitVec 32 := Scalar.xori v2 c2_i32_48
  let c1_i32_57 : BitVec 32 := 1#32
  let v72 : BitVec 32 := Scalar.muli v58 c1_i32_57
  let v73 : BitVec 32 := Scalar.addi c0_i32_58 v72
  v73.toNat
def k1_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v57 : BitVec 32 := Scalar.andi v2 c4_i32_47
  let c2_i32_51 : BitVec 32 := 2#32
  let v62 : BitVec 32 := Scalar.andi v2 c2_i32_51
  let v63 : BitVec 32 := Scalar.ori v57 v62
  let c256_i32_52 : BitVec 32 := 256#32
  let v64 : BitVec 32 := Scalar.muli v63 c256_i32_52
  let v90 : Index := Scalar.indexCast v64
  let c0_77 : Index := 0#32
  ![v90.toNat, 0]
def k1_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v98 : BitVec 32 := Scalar.andi v2 c6_i32
  let c1_i32_81 : BitVec 32 := 1#32
  let v99 : BitVec 32 := Scalar.xori v2 c1_i32_81
  let c1_i32_82 : BitVec 32 := 1#32
  let v100 : BitVec 32 := Scalar.andi v99 c1_i32_82
  let v101 : BitVec 32 := Scalar.ori v98 v100
  let c256_i32_83 : BitVec 32 := 256#32
  let v102 : BitVec 32 := Scalar.muli v101 c256_i32_83
  let v106 : Index := Scalar.indexCast v102
  let c0_86 : Index := 0#32
  ![v106.toNat, 0]
def k1_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v99 : BitVec 32 := Scalar.xori v2 c1_i32_81
  let c1_i32_90 : BitVec 32 := 1#32
  let v113 : BitVec 32 := Scalar.muli v99 c1_i32_90
  let v114 : BitVec 32 := Scalar.addi c0_i32_91 v113
  v114.toNat
def k1_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v98 : BitVec 32 := Scalar.andi v2 c6_i32
  let c1_i32_84 : BitVec 32 := 1#32
  let v103 : BitVec 32 := Scalar.andi v2 c1_i32_84
  let v104 : BitVec 32 := Scalar.ori v98 v103
  let c256_i32_85 : BitVec 32 := 256#32
  let v105 : BitVec 32 := Scalar.muli v104 c256_i32_85
  let v131 : Index := Scalar.indexCast v105
  let c0_110 : Index := 0#32
  ![v131.toNat, 0]
def k1_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v140 : BitVec 32 := Scalar.andi v2 c7_i32
  let c256_i32_115 : BitVec 32 := 256#32
  let v141 : BitVec 32 := Scalar.muli v140 c256_i32_115
  let v144 : Index := Scalar.indexCast v141
  let c0_118 : Index := 0#32
  ![v144.toNat, 0]
def k1_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v139 : BitVec 32 := Scalar.xori v2 c1_i32_114
  let c1_i32_122 : BitVec 32 := 1#32
  let v151 : BitVec 32 := Scalar.muli v139 c1_i32_122
  let v152 : BitVec 32 := Scalar.addi c0_i32_123 v151
  v152.toNat
def k1_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v139 : BitVec 32 := Scalar.xori v2 c1_i32_114
  let c7_i32_116 : BitVec 32 := 7#32
  let v142 : BitVec 32 := Scalar.andi v139 c7_i32_116
  let c256_i32_117 : BitVec 32 := 256#32
  let v143 : BitVec 32 := Scalar.muli v142 c256_i32_117
  let v171 : Index := Scalar.indexCast v143
  let c0_144 : Index := 0#32
  ![v171.toNat, 0]
def k1_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_146 : BitVec 32 := 6#32
  let v174 : BitVec 32 := Scalar.andi v2 c6_i32_146
  let c256_i32_147 : BitVec 32 := 256#32
  let v175 : BitVec 32 := Scalar.muli v174 c256_i32_147
  let v178 : Index := Scalar.indexCast v175
  let c0_150 : Index := 0#32
  ![v178.toNat, 0]
def k1_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_145 : BitVec 32 := 2#32
  let v173 : BitVec 32 := Scalar.xori v2 c2_i32_145
  let c1_i32_154 : BitVec 32 := 1#32
  let v185 : BitVec 32 := Scalar.muli v173 c1_i32_154
  let v186 : BitVec 32 := Scalar.addi c0_i32_155 v185
  v186.toNat
def k1_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_145 : BitVec 32 := 2#32
  let v173 : BitVec 32 := Scalar.xori v2 c2_i32_145
  let c6_i32_148 : BitVec 32 := 6#32
  let v176 : BitVec 32 := Scalar.andi v173 c6_i32_148
  let c256_i32_149 : BitVec 32 := 256#32
  let v177 : BitVec 32 := Scalar.muli v176 c256_i32_149
  let v205 : Index := Scalar.indexCast v177
  let c0_176 : Index := 0#32
  ![v205.toNat, 0]
def k1_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_178 : BitVec 32 := 4#32
  let v208 : BitVec 32 := Scalar.andi v2 c4_i32_178
  let c256_i32_179 : BitVec 32 := 256#32
  let v209 : BitVec 32 := Scalar.muli v208 c256_i32_179
  let v212 : Index := Scalar.indexCast v209
  let c0_182 : Index := 0#32
  ![v212.toNat, 0]
def k1_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_177 : BitVec 32 := 4#32
  let v207 : BitVec 32 := Scalar.xori v2 c4_i32_177
  let c1_i32_185 : BitVec 32 := 1#32
  let v219 : BitVec 32 := Scalar.muli v207 c1_i32_185
  let v220 : BitVec 32 := Scalar.addi c0_i32_186 v219
  v220.toNat
def k1_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_177 : BitVec 32 := 4#32
  let v207 : BitVec 32 := Scalar.xori v2 c4_i32_177
  let c4_i32_180 : BitVec 32 := 4#32
  let v210 : BitVec 32 := Scalar.andi v207 c4_i32_180
  let c256_i32_181 : BitVec 32 := 256#32
  let v211 : BitVec 32 := Scalar.muli v210 c256_i32_181
  let v239 : Index := Scalar.indexCast v211
  let c0_207 : Index := 0#32
  ![v239.toNat, 0]
def k1_dev10 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_209 : BitVec 32 := 1#32
  let v241 : BitVec 32 := Scalar.muli v3 c1_i32_209
  let v242 : BitVec 32 := Scalar.addi c0_i32_210 v241
  v242.toNat
def k1_dev11 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_212 : BitVec 32 := 1#32
  let v243 : BitVec 32 := Scalar.muli v4 c1_i32_212
  let v244 : BitVec 32 := Scalar.addi c0_i32_213 v243
  v244.toNat
def k1_dev12 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_215 : BitVec 32 := 1#32
  let v245 : BitVec 32 := Scalar.muli v5 c1_i32_215
  let v246 : BitVec 32 := Scalar.addi c0_i32_216 v245
  v246.toNat
abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 72
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x8192, .bf16⟩
  | .hbm, ⟨2, _⟩ => ⟨S1x2048x64x128, .bf16⟩
  | .hbm, ⟨3, _⟩ => ⟨S1x2048x64x128, .bf16⟩
  | .hbm, ⟨4, _⟩ => ⟨S8192x1024, .bf16⟩
  | .hbm, ⟨5, _⟩ => ⟨S1x2048x1024, .f32⟩
  | .hbm, ⟨6, _⟩ => ⟨S1024x8192, .f32⟩
  | .hbm, ⟨7, _⟩ => ⟨S1x2048x64x128, .f32⟩
  | .hbm, ⟨8, _⟩ => ⟨S1x2048x64x128, .f32⟩
  | .hbm, ⟨9, _⟩ => ⟨S8192x1024, .f32⟩
  | .hbm, ⟨10, _⟩ => ⟨S1x2048x8192, .f32⟩
  | .hbm, ⟨11, _⟩ => ⟨S1x2048x64x128, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S_, .i32⟩
  | .hbm, ⟨27, _⟩ => ⟨S2048x1, .i32⟩
  | .hbm, ⟨28, _⟩ => ⟨S2048x1, .i1⟩
  | .hbm, ⟨29, _⟩ => ⟨S2048x2048, .i1⟩
  | .hbm, ⟨30, _⟩ => ⟨S2048x2048, .i1⟩
  | .hbm, ⟨31, _⟩ => ⟨S2048x2048, .i1⟩
  | .hbm, ⟨32, _⟩ => ⟨S2048x2048, .i1⟩
  | .hbm, ⟨33, _⟩ => ⟨S1x64x2048x2048, .f32⟩
  | .hbm, ⟨34, _⟩ => ⟨S_, .f32⟩
  | .hbm, ⟨35, _⟩ => ⟨S1x64x2048x2048, .f32⟩
  | .hbm, ⟨36, _⟩ => ⟨S1x64x2048x2048, .f32⟩
  | .hbm, ⟨37, _⟩ => ⟨S1x1x2048x2048, .i1⟩
  | .hbm, ⟨38, _⟩ => ⟨S_, .f32⟩
  | .hbm, ⟨39, _⟩ => ⟨S_, .f32⟩
  | .hbm, ⟨40, _⟩ => ⟨S1x64x2048x2048, .i1⟩
  | .hbm, ⟨41, _⟩ => ⟨S1x64x2048x2048, .f32⟩
  | .hbm, ⟨42, _⟩ => ⟨S1x64x2048x2048, .f32⟩
  | .hbm, ⟨43, _⟩ => ⟨S_, .f32⟩
  | .hbm, ⟨44, _⟩ => ⟨S1x64x2048, .f32⟩
  | .hbm, ⟨45, _⟩ => ⟨S1x64x2048x1, .f32⟩
  | .hbm, ⟨46, _⟩ => ⟨S1x64x2048x2048, .f32⟩
  | .hbm, ⟨47, _⟩ => ⟨S1x64x2048x2048, .f32⟩
  | .hbm, ⟨48, _⟩ => ⟨S1x64x2048x2048, .f32⟩
  | .hbm, ⟨49, _⟩ => ⟨S_, .i1⟩
  | .hbm, ⟨50, _⟩ => ⟨S2048, .i1⟩
  | .hbm, ⟨51, _⟩ => ⟨S1x1x2048x1, .i1⟩
  | .hbm, ⟨52, _⟩ => ⟨S_, .f32⟩
  | .hbm, ⟨53, _⟩ => ⟨S1x64x2048, .f32⟩
  | .hbm, ⟨54, _⟩ => ⟨S1x64x2048x1, .f32⟩
  | .hbm, ⟨55, _⟩ => ⟨S_, .f32⟩
  | .hbm, ⟨56, _⟩ => ⟨S_, .f32⟩
  | .hbm, ⟨57, _⟩ => ⟨S1x64x2048x1, .i1⟩
  | .hbm, ⟨58, _⟩ => ⟨S1x64x2048x1, .f32⟩
  | .hbm, ⟨59, _⟩ => ⟨S1x64x2048x1, .f32⟩
  | .hbm, ⟨60, _⟩ => ⟨S1x64x2048x2048, .f32⟩
  | .hbm, ⟨61, _⟩ => ⟨S1x64x2048x2048, .f32⟩
  | .hbm, ⟨62, _⟩ => ⟨S1x1x2048x1, .i1⟩
  | .hbm, ⟨63, _⟩ => ⟨S_, .f32⟩
  | .hbm, ⟨64, _⟩ => ⟨S_, .f32⟩
  | .hbm, ⟨65, _⟩ => ⟨S1x64x2048x2048, .i1⟩
  | .hbm, ⟨66, _⟩ => ⟨S1x64x2048x2048, .f32⟩
  | .hbm, ⟨67, _⟩ => ⟨S1x64x2048x2048, .f32⟩
  | .hbm, ⟨68, _⟩ => ⟨S1x64x128x2048, .f32⟩
  | .hbm, ⟨69, _⟩ => ⟨S1x2048x64x128, .f32⟩
  | .hbm, ⟨70, _⟩ => ⟨S1x2048x8192, .f32⟩
  | .hbm, ⟨71, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Halving.lean ====
/-
  The arithmetic of the all-reduce by recursive halving and doubling, as functions on whole arrays:
  six legs, in each of which a device and its partner (the device whose number differs in one bit)
  exchange a block of rows. `held X n c` is what device c's result buffer holds before leg n, when the
  devices' arrays are X; `sentRows X c` is what device c's send buffer holds once every leg has run.
  All of it at any float type: rounding a row to bf16 and widening it again are kept as they are.
-/
module

public import proofs.«01_k».proof.Proof.Gen.KernelIdeal.Skeleton
public import Idealize.ShloMosaic.Lib.Pipeline.Value

@[expose] public section

noncomputable section

namespace Cert.KernelIdeal.Halving

open Idealize.ShloMosaic Idealize.SL.Sem
open Cert.KernelIdeal Cert.KernelIdeal.Gen

/-- The device whose number differs from c's in bit b. -/
def pr (b : Fin 3) (c : Dev nD) : Dev nD := ⟨(c.val ^^^ 2 ^ b.val) % 8, Nat.mod_lt _ (by decide)⟩
/-- Partners are mutual. -/
theorem pr_pr (b : Fin 3) (c : Dev nD) : pr b (pr b c) = c := by revert b c; decide
/-- A device's three partners are distinct. -/
theorem pr_bit {b b' : Fin 3} {c : Dev nD} (h : pr b c = pr b' c) : b = b' := by revert b b' c; decide
/-- Partners as a permutation of the devices. -/
def swap (b : Fin 3) : Dev nD ≃ Dev nD := ⟨pr b, pr b, pr_pr b, pr_pr b⟩

/-- The bit in which the partners of leg s differ. -/
def bit : Fin 6 → Fin 3 := ![2, 1, 0, 0, 1, 2]
/-- The partner in leg s. -/
abbrev mate (s : Fin 6) (c : Dev nD) : Dev nD := pr (bit s) c
/-- How many rows leg s moves, and where they stand in the send and the receive buffer. -/
def rows : Fin 6 → ℕ := ![1024, 512, 256, 256, 512, 1024]
@[inherit_doc rows] def at_ : Fin 6 → ℕ := ![0, 1024, 1536, 1792, 2048, 2560]
/-- The first row of the block of `rows s` rows that holds device d's 256 rows. -/
def lo (s : Fin 6) (d : Dev nD) : ℕ := d.val * 256 / rows s * rows s
/-- The first row that device c writes in leg s: of its own block while halving, of its partner's while doubling. -/
def keepLo (s : Fin 6) (c : Dev nD) : ℕ := lo s (if s.val < 3 then c else mate s c)
/-- The first row that device c sends in leg s: what its partner writes. -/
def sendLo (s : Fin 6) (c : Dev nD) : ℕ := keepLo s (mate s c)

/-- The rows a device writes lie in the array. -/
theorem keepLo_add (s : Fin 6) (c : Dev nD) : keepLo s c + rows s ≤ 2048 := by revert s c; decide
/-- A leg's rows lie in the buffers. -/
theorem at_add (s : Fin 6) : at_ s + rows s ≤ 3584 := by revert s; decide
/-- What the partner sends is what the device writes. -/
theorem sendLo_mate (s : Fin 6) (c : Dev nD) : sendLo s (mate s c) = keepLo s c := by unfold sendLo mate; rw [pr_pr]

/-- The leg whose rows hold row r of the send buffer. -/
def legOf (r : ℕ) : Fin 6 := if r < 1024 then 0 else if r < 1536 then 1 else if r < 1792 then 2 else if r < 2048 then 3 else if r < 2560 then 4 else 5
/-- Every row of a leg's block belongs to that leg. -/
theorem legOf_at (s : Fin 6) (x : ℕ) (h : x < rows s) : legOf (at_ s + x) = s := by
  fin_cases s <;> simp only [rows, at_, Fin.zero_eta, Fin.mk_one, Fin.reduceFinMk, Matrix.cons_val] at h ⊢ <;> unfold legOf <;>
    repeat first | rfl | rw [if_pos (by omega)] | rw [if_neg (by omega)]

variable {F : FTy → Type} [FloatOps F]

/-- A device's array, and a send or receive buffer. -/
abbrev Arr (F : FTy → Type) : Type := S2048x1024.Idx → F .f32
@[inherit_doc Arr] abbrev Buf16 (F : FTy → Type) : Type := S3584x1024.Idx → F .bf16

/-- One value rounded to bf16, and one widened. -/
abbrev tr (x : F .f32) : F .bf16 := FloatOps.truncf .bf16 bitsLt_bf16_f32 x
@[inherit_doc tr] abbrev ex (x : F .bf16) : F .f32 := FloatOps.extf .f32 bitsLt_bf16_f32 x

/-- What leg s writes at i of device c's array: its own value plus the partner's rounded one while halving, the partner's rounded one while doubling. -/
def put (s : Fin 6) (o : Dev nD → Arr F) (c : Dev nD) (i : S2048x1024.Idx) : F .f32 :=
  if s.val < 3 then FloatOps.addf (o c i) (ex (tr (o (mate s c) i))) else ex (tr (o (mate s c) i))

/-- The devices' arrays after leg s. -/
def leg (s : Fin 6) (o : Dev nD → Arr F) : Dev nD → Arr F := fun c i =>
  if keepLo s c ≤ (i 0).val ∧ (i 0).val < keepLo s c + rows s then put s o c i else o c i

/-- The devices' arrays before leg n. -/
def held (X : Dev nD → Arr F) : ℕ → Dev nD → Arr F
  | 0 => X
  | n + 1 => leg (Fin.ofNat 6 n) (held X n)

/-- The arrays before the next leg are those after this one. -/
theorem held_succ (X : Dev nD → Arr F) (s : Fin 6) : held X (s.val + 1) = leg s (held X s.val) := by
  show leg (Fin.ofNat 6 s.val) (held X s.val) = _
  rw [Fin.ofNat_val_eq_self]

/-- Device c's send buffer once every leg has run: in leg s's rows the rows it sends in leg s, rounded. -/
def sentRows (X : Dev nD → Arr F) (c : Dev nD) : Buf16 F := fun j =>
  let s := legOf (j 0).val
  tr (held X s.val c (ix2 ((sendLo s c + ((j 0).val - at_ s)) % 2048) ((j 1).val)))
where ix2 (a b : ℕ) : S2048x1024.Idx := Fin.cons (Fin.ofNat 2048 a) (Fin.cons (Fin.ofNat 1024 b) finZeroElim)

/-- Leg s's rows in the send and the receive buffer. -/
abbrev legRect (s : Fin 6) : Rect S3584x1024 := Rect.unit (s := S3584x1024) ![at_ s, 0] ![rows s, 1024] (by revert s; decide)

/-- A row sent in leg s, by its place in the send buffer and its place in the array. -/
theorem sentRows_emb (X : Dev nD → Arr F) (s : Fin 6) (c : Dev nD) (x : (legRect s).shape.Idx) (i : S2048x1024.Idx)
    (h0 : (i 0).val = sendLo s c + (x 0).val) (h1 : (i 1).val = (x 1).val) :
    sentRows X c ((legRect s).emb x) = tr (held X s.val c i) := by
  have hx : (x 0).val < rows s := (x 0).isLt
  have e0 : ((legRect s).emb x 0).val = at_ s + (x 0).val := (Rect.emb_apply _ _ _).trans (by show at_ s + 1 * (x 0).val = _; rw [Nat.one_mul])
  have e1 : ((legRect s).emb x 1).val = (x 1).val := (Rect.emb_apply _ _ _).trans (by show 0 + 1 * (x 1).val = _; omega)
  have hi : (i 0).val < 2048 := (i 0).isLt
  have hi1 : (i 1).val < 1024 := (i 1).isLt
  unfold sentRows
  rw [e0, e1, legOf_at s _ hx]
  dsimp only
  congr 2
  funext a
  refine Fin.ext ?_
  match a with
  | ⟨0, _⟩ => show ((sendLo s c + (at_ s + (x 0).val - at_ s)) % 2048) % 2048 = (i 0).val; rw [Nat.add_sub_cancel_left, ← h0]; omega
  | ⟨1, _⟩ => show (x 1).val % 1024 = (i 1).val; rw [← h1]; omega

/-! ## The buffers, and what a leg's loads and stores see of them -/

/-- The result, send and receive buffers, whole. -/
abbrev outM : Memref sig .tc .vmem S2048x1024 .f32 := Memref.whole cc1_stg1_0
@[inherit_doc outM] abbrev sndM : Memref sig .tc .vmem S3584x1024 .bf16 := Memref.whole cc1_scratch0
@[inherit_doc outM] abbrev rcvM : Memref sig .tc .vmem S3584x1024 .bf16 := Memref.whole cc1_scratch1

/-- Writing leg s's rows of device c's array makes it the array after the leg. -/
theorem write_out (X : Dev nD → Arr F) (s : Fin 6) (c : Dev nD) {off : Fin 2 → ℕ} (hoff : off = ![keepLo s c, 0])
    (h : ∀ k, off k + (![rows s, 1024] : Fin 2 → ℕ) k ≤ S2048x1024.size k) (w : (Rect.unit (s := S2048x1024) off ![rows s, 1024] h).shape.Idx → F .f32)
    (hw : ∀ x i, (i 0).val = keepLo s c + (x 0).val → (i 1).val = (x 1).val → w x = put s (held X s.val) c i) :
    (outM.access (Rect.unit (s := S2048x1024) off ![rows s, 1024] h)).write (Elt F) (held X s.val c) w Finset.univ = held X (s.val + 1) c := by
  subst hoff
  rw [held_succ]
  funext i
  by_cases hi : keepLo s c ≤ (i 0).val ∧ (i 0).val < keepLo s c + rows s
  · let x : (Rect.unit (s := S2048x1024) ![keepLo s c, 0] ![rows s, 1024] h).shape.Idx :=
      Fin.cons ⟨(i 0).val - keepLo s c, (by omega : _ < rows s)⟩ (Fin.cons ⟨(i 1).val, (i 1).isLt⟩ finZeroElim)
    have hx : (Rect.unit (s := S2048x1024) ![keepLo s c, 0] ![rows s, 1024] h).emb x = i := by
      funext a
      refine Fin.ext ((Rect.emb_apply _ _ _).trans ?_)
      match a with
      | ⟨0, _⟩ => show keepLo s c + 1 * ((i 0).val - keepLo s c) = (i 0).val; omega
      | ⟨1, _⟩ => show 0 + 1 * (i 1).val = (i 1).val; omega
    have e := View.write_emb_of_mem (Val := Elt F) (v := outM.access (Rect.unit (s := S2048x1024) ![keepLo s c, 0] ![rows s, 1024] h)) (held X s.val c) w (Finset.mem_univ x)
    have e2 : (outM.access (Rect.unit (s := S2048x1024) ![keepLo s c, 0] ![rows s, 1024] h)).emb x = i := hx
    rw [e2] at e
    rw [e]
    show w x = leg s (held X s.val) c i
    rw [leg, if_pos hi]
    exact hw x i (by show (i 0).val = keepLo s c + ((i 0).val - keepLo s c); omega) rfl
  · rw [View.write_of_not_mem]
    · show held X s.val c i = leg s (held X s.val) c i
      rw [leg, if_neg hi]
    · intro hm
      have hm' : i ∈ (Rect.unit (s := S2048x1024) ![keepLo s c, 0] ![rows s, 1024] h).set := by
        rw [← View.set_slice_whole cc1_stg1_0]; exact hm
      obtain ⟨j, hj, e⟩ := (LoadRect.mem_set _).mp hm' 0
      have hj' : j < rows s := hj
      have e' : (i 0).val = keepLo s c + 1 * j := e
      omega

/-- Storing in leg s's rows of the send buffer the rows the leg sends, rounded: there the buffer is at its final contents. -/
theorem write_snd (X : Dev nD → Arr F) (s : Fin 6) (c : Dev nD) (f : Buf16 F) (w : (legRect s).shape.Idx → F .bf16)
    (hw : ∀ x i, (i 0).val = sendLo s c + (x 0).val → (i 1).val = (x 1).val → w x = tr (held X s.val c i)) :
    ∀ j ∈ (sndM.access (legRect s)).set, (sndM.access (legRect s)).write (Elt F) f w Finset.univ j = sentRows X c j := by
  intro j hj
  obtain ⟨x, -, rfl⟩ := Finset.mem_map.mp hj
  rw [View.write_emb_of_mem _ _ (Finset.mem_univ x)]
  have hk : sendLo s c + rows s ≤ 2048 := keepLo_add s (mate s c)
  have hx : (x 0).val < rows s := (x 0).isLt
  let i : S2048x1024.Idx := Fin.cons ⟨sendLo s c + (x 0).val, (by omega : _ < 2048)⟩ (Fin.cons ⟨(x 1).val, (x 1).isLt⟩ finZeroElim)
  exact (hw x i rfl rfl).trans (sentRows_emb X s c x i rfl rfl).symm

/-- What lands in leg s's rows of a receive buffer is the same rows of the sender's send buffer. -/
theorem landed (s : Fin 6) (f g : Buf16 F) :
    ∀ j ∈ (rcvM.access (legRect s)).set, (rcvM.access (legRect s)).write (Elt F) f ((sndM.access (legRect s)).read (Elt F) g) Finset.univ j = g j := by
  intro j hj
  obtain ⟨x, -, rfl⟩ := Finset.mem_map.mp hj
  rw [View.write_emb_of_mem _ _ (Finset.mem_univ x)]
  rfl

/-- A row received in leg s is the partner's, rounded. -/
theorem read_rcv (X : Dev nD → Arr F) (s : Fin 6) (c : Dev nD) (x : (legRect s).shape.Idx) (i : S2048x1024.Idx)
    (h0 : (i 0).val = keepLo s c + (x 0).val) (h1 : (i 1).val = (x 1).val) :
    (rcvM.access (legRect s)).read (Elt F) (sentRows X (mate s c)) x = tr (held X s.val (mate s c) i) :=
  sentRows_emb X s (mate s c) x i (by rw [sendLo_mate]; exact h0) h1

end Cert.KernelIdeal.Halving
-- ==== Proof.Protocol.lean ====
/-
  The protocol of the all-reduce: which semaphores its devices meet at, who pays each of them, what
  every payment hands over, and in which order a device may still owe payments while it waits.

  - The barrier (three units, one from each partner): a partner hands over the two receive slices
    of its own that this device will write, and that its receive and exit cells are open.
  - Receive semaphore of leg s: the partner's copy pays it with the slice, now holding the partner's rows.
  - Send semaphore of leg s: the device's own copy pays it with the send slice back.
  - The exit semaphore (three units, one from each partner): nothing is handed over.
-/
module

public import proofs.«01_k».proof.Proof.Halving
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

namespace Cert.KernelIdeal.Halving

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## The semaphores -/

/-- Where devices meet. -/
inductive Site
  | bar
  | exit
  | snd (s : Fin 6)
  | rcv (s : Fin 6)
  deriving DecidableEq, Fintype

/-- The semaphore of a site, and the site of a semaphore. -/
def Site.sem : Site → SemLoc sig
  | .bar => .reg ⟨1, by decide⟩
  | .exit => .reg ⟨0, by decide⟩
  | .snd s => .dma ⟨14 + s.val, by revert s; decide⟩
  | .rcv s => .dma ⟨20 + s.val, by revert s; decide⟩
@[inherit_doc Site.sem] def siteOf : SemLoc sig → Option Site
  | .reg i => if i.val = 1 then some .bar else if i.val = 0 then some .exit else none
  | .dma i => if 14 ≤ i.val ∧ i.val < 20 then some (.snd (Fin.ofNat 6 (i.val - 14))) else if 20 ≤ i.val ∧ i.val < 26 then some (.rcv (Fin.ofNat 6 (i.val - 20))) else none

/-- A semaphore's site is found from it. -/
theorem siteOf_sem (k : Site) : siteOf k.sem = some k := by revert k; decide
/-- Sites have distinct semaphores. -/
theorem sem_inj : Function.Injective Site.sem := fun a b h => Option.some.inj (by rw [← siteOf_sem, ← siteOf_sem, h])

/-- Device c's cell at a site. -/
abbrev cell (c : Dev nD) (k : Site) : GSem nD τ sig := ((c : Thread nD τ), k.sem)

/-- Devices and sites have distinct semaphores. -/
theorem cell_inj {c c' : Dev nD} {k k' : Site} (h : cell c k = cell c' k') : c = c' ∧ k = k' :=
  ⟨congrArg (fun g : GSem nD τ sig => g.1.1) h, sem_inj (congrArg Prod.snd h)⟩

/-! ## The buffers' slices and the payments -/

variable {F : FTy → Type} [FloatOps F]

/-- The ghost algebra: the pipeline library's rounds beside this protocol's. -/
abbrev UU : Type := UR sig nD τ × URounds (GSem nD τ sig) (Fin 3)

local notation "𝕄" => MT nD τ sig Unit (Elt F) ℕ UU ℕ

/-- The two components' places in the machine's algebra. -/
abbrev EP : Emb (UR sig nD τ) (MT nD τ sig Unit (Elt F) ℕ UU ℕ) := embL
@[inherit_doc EP] abbrev ER : Emb (URounds (GSem nD τ sig) (Fin 3)) (MT nD τ sig Unit (Elt F) ℕ UU ℕ) := embR

/-- What a copy of leg s counts on its semaphores. -/
def size (s : Fin 6) : ℕ := (rcvM.access (legRect s)).dmaCredit
/-- Every leg credits its semaphores. -/
theorem size_pos (s : Fin 6) : 0 < size s := View.dmaCredit_pos _ (by revert s; decide)

/-- Device c's send slice of leg s, and its receive slice, at contents f. -/
abbrev sPts (c : Dev nD) (s : Fin 6) (f : Buf16 F) : sProp 𝕄 := (sndM.access (legRect s)).loc (c : Thread nD τ) ↦[(sndM.access (legRect s)).set]{fullShare} f
@[inherit_doc sPts] abbrev rPts (c : Dev nD) (s : Fin 6) (f : Buf16 F) : sProp 𝕄 := (rcvM.access (legRect s)).loc (c : Thread nD τ) ↦[(rcvM.access (legRect s)).set]{fullShare} f

/-- The two legs in which the partners differ in bit b. -/
def legA (b : Fin 3) : Fin 6 := ![2, 1, 0] b
@[inherit_doc legA] def legB (b : Fin 3) : Fin 6 := ![3, 4, 5] b

variable (X : Dev nD → Arr F)

/-- What the partner in bit b hands over at device c's barrier. -/
def barPay (c : Dev nD) (b : Fin 3) : sProp 𝕄 :=
  iprop((∃ f, rPts (pr b c) (legA b) f) ∗ (∃ f, rPts (pr b c) (legB b) f)
    ∗ reached ER (cell (pr b c) (.rcv (legA b))) 0 ∗ reached ER (cell (pr b c) (.rcv (legB b))) 0 ∗ reached ER (cell (pr b c) .exit) 0)

/-- The schedule: every site has one round; at the barrier and at the exit each bit is a duty, at the others bit 0 alone. -/
def sched : Rounds.Schedule (GSem nD τ sig) (Fin 3) 𝕄 where
  duties g r := if r = 0 ∧ g.1.2 = .tc then (match siteOf g.2 with | some .bar => Finset.univ | some .exit => Finset.univ | some _ => {0} | none => ∅) else ∅
  unitless _ := False
  amount g _ _ := match siteOf g.2 with | some (.snd s) => size s | some (.rcv s) => size s | _ => 1
  payload g _ b := match siteOf g.2 with
    | some .bar => barPay g.1.1 b
    | some (.snd s) => sPts g.1.1 s (sentRows X g.1.1)
    | some (.rcv s) => rPts g.1.1 s (sentRows X (mate s g.1.1))
    | _ => iprop(emp)
  amount_pos g _ _ _ := by
    split
    · exact size_pos _
    · exact size_pos _
    · exact Nat.one_pos

instance sched_storable (g : GSem nD τ sig) (r : ℕ) (b : Fin 3) : BI.Storable (upEmb : UEmb _ 𝕄) ((sched X).payload g r b) := by
  dsimp only [sched]
  unfold barPay sPts rPts
  split <;> infer_instance

section Tables

variable (c : Dev nD) (s : Fin 6) (b : Fin 3)

/-- Who signals each semaphore in its only round. -/
theorem duties_bar : (sched X).duties (cell c .bar) 0 = Finset.univ := by dsimp only [sched, cell]; rw [siteOf_sem]; exact if_pos ⟨rfl, rfl⟩
@[inherit_doc duties_bar] theorem duties_exit : (sched X).duties (cell c .exit) 0 = Finset.univ := by dsimp only [sched, cell]; rw [siteOf_sem]; exact if_pos ⟨rfl, rfl⟩
@[inherit_doc duties_bar] theorem duties_snd : (sched X).duties (cell c (.snd s)) 0 = {0} := by dsimp only [sched, cell]; rw [siteOf_sem]; exact if_pos ⟨rfl, rfl⟩
@[inherit_doc duties_bar] theorem duties_rcv : (sched X).duties (cell c (.rcv s)) 0 = {0} := by dsimp only [sched, cell]; rw [siteOf_sem]; exact if_pos ⟨rfl, rfl⟩
/-- There is one round only. -/
theorem duties_later (g : GSem nD τ sig) : ∀ r, 1 ≤ r → (sched X).duties g r = ∅ := fun r hr => if_neg fun h => by omega

/-- How much each signal adds. -/
theorem amount_bar : (sched X).amount (cell c .bar) 0 b = 1 := by dsimp only [sched, cell]; rw [siteOf_sem]
@[inherit_doc amount_bar] theorem amount_exit : (sched X).amount (cell c .exit) 0 b = 1 := by dsimp only [sched, cell]; rw [siteOf_sem]
@[inherit_doc amount_bar] theorem amount_snd : (sched X).amount (cell c (.snd s)) 0 b = size s := by dsimp only [sched, cell]; rw [siteOf_sem]
@[inherit_doc amount_bar] theorem amount_rcv : (sched X).amount (cell c (.rcv s)) 0 b = size s := by dsimp only [sched, cell]; rw [siteOf_sem]

/-- What each signal hands over. -/
theorem payload_bar : (sched X).payload (cell c .bar) 0 b = barPay c b := by dsimp only [sched, cell]; rw [siteOf_sem]
@[inherit_doc payload_bar] theorem payload_exit : (sched X).payload (cell c .exit) 0 b = iprop(emp) := by dsimp only [sched, cell]; rw [siteOf_sem]
@[inherit_doc payload_bar] theorem payload_snd : (sched X).payload (cell c (.snd s)) 0 b = sPts c s (sentRows X c) := by dsimp only [sched, cell]; rw [siteOf_sem]
@[inherit_doc payload_bar] theorem payload_rcv : (sched X).payload (cell c (.rcv s)) 0 b = rPts c s (sentRows X (mate s c)) := by dsimp only [sched, cell]; rw [siteOf_sem]

/-- How much a wait takes. -/
theorem expect_bar : (sched X).expect (cell c .bar) 0 = 3 := by
  unfold Schedule.expect Schedule.amountOf; rw [duties_bar, Finset.sum_congr rfl fun b _ => amount_bar X c b]; decide
@[inherit_doc expect_bar] theorem expect_exit : (sched X).expect (cell c .exit) 0 = 3 := by
  unfold Schedule.expect Schedule.amountOf; rw [duties_exit, Finset.sum_congr rfl fun b _ => amount_exit X c b]; decide
@[inherit_doc expect_bar] theorem expect_snd : (sched X).expect (cell c (.snd s)) 0 = size s := by
  unfold Schedule.expect Schedule.amountOf; rw [duties_snd, Finset.sum_singleton, amount_snd]
@[inherit_doc expect_bar] theorem expect_rcv : (sched X).expect (cell c (.rcv s)) 0 = size s := by
  unfold Schedule.expect Schedule.amountOf; rw [duties_rcv, Finset.sum_singleton, amount_rcv]

/-- Over three bits, one by one. -/
theorem bigSep_three (Φ : Fin 3 → sProp 𝕄) : bigSep Finset.univ Φ = iprop(Φ 0 ∗ Φ 1 ∗ Φ 2) := bigSep_univ_eq_bigSepL [0, 1, 2] (by decide) (by decide) Φ
/-- Over six legs, one by one. -/
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- What a wait hands over. -/
theorem rest_bar : bigSep ((sched X).duties (cell c .bar) 0 \ ∅) (fun b => (sched X).payload (cell c .bar) 0 b) = iprop(barPay c 0 ∗ barPay c 1 ∗ barPay c 2) := by
  rw [Finset.sdiff_empty, duties_bar, bigSep_three, payload_bar, payload_bar, payload_bar]
@[inherit_doc rest_bar] theorem rest_snd : bigSep ((sched X).duties (cell c (.snd s)) 0 \ ∅) (fun b => (sched X).payload (cell c (.snd s)) 0 b) = sPts c s (sentRows X c) := by
  rw [Finset.sdiff_empty, duties_snd, bigSep_singleton, payload_snd]
@[inherit_doc rest_bar] theorem rest_rcv : bigSep ((sched X).duties (cell c (.rcv s)) 0 \ ∅) (fun b => (sched X).payload (cell c (.rcv s)) 0 b) = rPts c s (sentRows X (mate s c)) := by
  rw [Finset.sdiff_empty, duties_rcv, bigSep_singleton, payload_rcv]

end Tables

/-! ## What a device owes, and the order of the waits -/

/-- The sum of the members of a family from number n on. -/
def tail {k : ℕ} {A : Type} [AddCommMonoid A] (f : Fin k → A) (n : ℕ) : A := ∑ x : Fin k with n ≤ x.val, f x

/-- The tail from the start is the sum. -/
theorem tail_zero {k : ℕ} {A : Type} [AddCommMonoid A] (f : Fin k → A) : tail f 0 = ∑ x, f x := by
  unfold tail; rw [Finset.filter_true_of_mem fun x _ => Nat.zero_le _]
/-- The tail past the end is zero. -/
theorem tail_end {k : ℕ} {A : Type} [AddCommMonoid A] (f : Fin k → A) : tail f k = 0 := by
  unfold tail; rw [Finset.filter_false_of_mem fun x _ => by omega, Finset.sum_empty]
/-- A tail is its first term and the next tail. -/
theorem tail_step {k : ℕ} {A : Type} [AddCommMonoid A] (f : Fin k → A) (x : Fin k) : tail f x.val = tail f (x.val + 1) + f x := by
  unfold tail
  rw [show (Finset.univ.filter fun y : Fin k => x.val ≤ y.val) = insert x (Finset.univ.filter fun y : Fin k => x.val + 1 ≤ y.val) from by
    ext y; simp only [Finset.mem_filter, Finset.mem_univ, true_and, Finset.mem_insert, Fin.ext_iff]; omega,
    Finset.sum_insert (by simp), add_comm]

/-- What device c pays to its partners' barrier cells, receive cells and exit cells, payment by payment. -/
def payBar (c : Dev nD) (b : Fin 3) : CellTallies nD τ sig Unit := tallyAt (cell (pr b c) .bar) () 1
@[inherit_doc payBar] def payLeg (c : Dev nD) (s : Fin 6) : CellTallies nD τ sig Unit := tallyAt (cell (mate s c) (.rcv s)) () (size s)
@[inherit_doc payBar] def payExit (c : Dev nD) (b : Fin 3) : CellTallies nD τ sig Unit := tallyAt (cell (pr b c) .exit) () 1

/-- What device c still owes after the barrier signals and n legs. -/
def dueLegs (c : Dev nD) (n : ℕ) : CellTallies nD τ sig Unit := tail (payExit c) 0 + tail (payLeg c) n
/-- What device c still owes after n barrier signals. -/
def dueBars (c : Dev nD) (n : ℕ) : CellTallies nD τ sig Unit := dueLegs c 0 + tail (payBar c) n

/-- What is owed before a leg is that leg's and the rest. -/
theorem dueLegs_step (c : Dev nD) (s : Fin 6) : dueLegs c s.val = dueLegs c (s.val + 1) + payLeg c s := by unfold dueLegs; rw [tail_step, add_assoc]
/-- What is owed before a barrier signal is that signal's and the rest. -/
theorem dueBars_step (c : Dev nD) (b : Fin 3) : dueBars c b.val = dueBars c (b.val + 1) + payBar c b := by unfold dueBars; rw [tail_step, add_assoc]
/-- After the barrier signals the legs are owed. -/
theorem dueBars_end (c : Dev nD) : dueBars c 3 = dueLegs c 0 := by unfold dueBars; rw [tail_end, add_zero]
/-- After the legs the closing signals are owed. -/
theorem dueLegs_end (c : Dev nD) : dueLegs c 6 = tail (payExit c) 0 := by unfold dueLegs; rw [tail_end, add_zero]

/-- One index, at every TensorCore cell. -/
def L (g : GSem nD τ sig) : Finset Unit := if g.1.2 = .tc then {()} else ∅
/-- The barrier first, then the receive cells in the order of the legs, the exit last. -/
def lv (g : GSem nD τ sig) (_ : Unit) : ℕ := match siteOf g.2 with | some .bar => 1 | some (.rcv s) => 2 + s.val | some .exit => 10 | _ => 0

/-- Only the device's core has levels. -/
theorem L_of_ne (g : GSem nD τ sig) (h : g.1.2 ≠ .tc) : L g = ∅ := if_neg h
/-- The core's semaphores all have one. -/
theorem L_tc (c : Dev nD) (sm : SemLoc sig) : L ((c : Thread nD τ), sm) = {()} := if_pos rfl
/-- The order of the waits. -/
theorem lv_cell (c : Dev nD) (k : Site) (u : Unit) : lv (cell c k) u = match k with | .bar => 1 | .rcv s => 2 + s.val | .exit => 10 | .snd _ => 0 := by
  unfold lv; dsimp only [cell]; rw [siteOf_sem]; cases k <;> rfl

/-- A sum of tallies is positive where one of them is. -/
theorem sum_pos_at {A : Type} (S : Finset A) (f : A → CellTallies nD τ sig Unit) {g : GSem nD τ sig} {u : Unit}
    (h : 0 < (∑ x ∈ S, f x) g u) : ∃ x ∈ S, 0 < f x g u := by
  classical
  induction S using Finset.induction_on with
  | empty => rw [Finset.sum_empty] at h; exact absurd h (Nat.lt_irrefl 0)
  | insert a S ha ih =>
    rw [Finset.sum_insert ha, Pi.add_apply, Finsupp.add_apply] at h
    rcases Nat.add_pos_iff_pos_or_pos.mp h with h | h
    · exact ⟨a, Finset.mem_insert_self _ _, h⟩
    · obtain ⟨x, hx, e⟩ := ih h
      exact ⟨x, Finset.mem_insert_of_mem hx, e⟩

/-- Where what is owed after n legs is positive: at a partner's exit cell, or at the receive cell of a leg still to come. -/
theorem dueLegs_pos {c : Dev nD} {n : ℕ} {g : GSem nD τ sig} {u : Unit} (h : 0 < dueLegs c n g u) :
    (∃ d, g = cell d .exit) ∨ ∃ d s, n ≤ s.val ∧ g = cell d (.rcv s) := by
  unfold dueLegs at h
  rw [Pi.add_apply, Finsupp.add_apply] at h
  rcases Nat.add_pos_iff_pos_or_pos.mp h with h | h
  · obtain ⟨b, -, e⟩ := sum_pos_at _ _ h
    exact .inl ⟨_, (Pipeline.tallyAt_pos e).1⟩
  · obtain ⟨s, hs, e⟩ := sum_pos_at _ _ h
    exact .inr ⟨_, s, (Finset.mem_filter.mp hs).2, (Pipeline.tallyAt_pos e).1⟩

/-- Where what is owed before the barrier is positive. -/
theorem dueBars_pos {c : Dev nD} {n : ℕ} {g : GSem nD τ sig} {u : Unit} (h : 0 < dueBars c n g u) :
    ∃ d k, g = cell d k ∧ 0 < lv g u := by
  unfold dueBars at h
  rw [Pi.add_apply, Finsupp.add_apply] at h
  rcases Nat.add_pos_iff_pos_or_pos.mp h with h | h
  · rcases dueLegs_pos h with ⟨d, rfl⟩ | ⟨d, s, -, rfl⟩
    · exact ⟨d, .exit, rfl, by rw [lv_cell]; decide⟩
    · exact ⟨d, .rcv s, rfl, by rw [lv_cell]; dsimp only; omega⟩
  · obtain ⟨b, -, e⟩ := sum_pos_at _ _ h
    obtain ⟨rfl, -⟩ := Pipeline.tallyAt_pos e
    exact ⟨_, .bar, rfl, by rw [lv_cell]; decide⟩

/-- A device may wait at a site of a level below those of the exit and of the legs still to come. -/
theorem mayWait (c : Dev nD) (k : Site) (n : ℕ) (b : ℕ) (hk : lv (cell c k) () ≤ b) (hb : b < 10) (hn : b < 2 + n) :
    (levAts L lv : sProp 𝕄) ⊢ MayWait (c : Thread nD τ) k.sem () (dueLegs c n) :=
  MayOwe.of_cut (L := L) (lev := lv) b (fun p hp => by rw [Finset.mem_singleton.mp hp, L_tc]; exact Finset.mem_singleton_self _)
    (fun g u hg => by
      rcases dueLegs_pos hg with ⟨d, rfl⟩ | ⟨d, s, -, rfl⟩ <;> (rw [L_tc]; exact Finset.mem_singleton_self _))
    (fun p hp => by rw [Finset.mem_singleton.mp hp]; exact hk)
    (fun g u hg => by
      rcases dueLegs_pos hg with ⟨d, rfl⟩ | ⟨d, s, hs, rfl⟩ <;> rw [lv_cell] <;> dsimp only <;> omega)

end Cert.KernelIdeal.Halving
-- ==== Proof.Steps.lean ====
/-
  The all-reduce's operations on semaphores, each as one rule over the protocol: a barrier signal, the
  wait at the barrier, a leg's copy, the two waits of a leg, an exit signal, the wait at the exit.
-/
module

public import proofs.«01_k».proof.Proof.Protocol

@[expose] public section

noncomputable section

namespace Cert.KernelIdeal.Halving

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (X : Dev nD → Arr F)

/-- No variant is counted down. -/
abbrev 𝒱₀ : Variants := Variants.none

/-- Every cell's invariant, at the names K. -/
def recs (K : GSem nD τ sig → ℕ) : sProp 𝕄 := bigSep Finset.univ fun p : Dev nD × Site => cellInv ER (sched X) (K (cell p.1 p.2)) (cell p.1 p.2)
instance recs_persistent (K : GSem nD τ sig → ℕ) : BI.Persistent (recs X K) := by unfold recs; infer_instance
/-- One semaphore's invariant among all. -/
theorem recs_at (K : GSem nD τ sig → ℕ) (c : Dev nD) (k : Site) : recs X K ⊢ cellInv ER (sched X) (K (cell c k)) (cell c k) :=
  bigSep_elim (Finset.mem_univ (c, k))

variable (K : GSem nD τ sig → ℕ) (c : Dev nD) {W : Waits sig Unit} {Q : PUnit.{1} → sProp (MT nD τ sig Unit (Elt F) ℕ UU ℕ)}

/-- The shape of n rows. -/
abbrev legShape (n : ℕ) : Shape := ⟨2, ![n, 1024]⟩
/-- The rectangle of n rows from row a in a send or receive buffer. -/
abbrev legBlock (n a : ℕ) (h : ∀ k, (![a, 0] : Fin 2 → ℕ) k + (![n, 1024] : Fin 2 → ℕ) k ≤ S3584x1024.size k) : Rect S3584x1024 := Rect.unit (s := S3584x1024) ![a, 0] ![n, 1024] h
/-- Those rows of the send buffer, and of the receive buffer. -/
abbrev sndCut (n a : ℕ) (h : ∀ k, (![a, 0] : Fin 2 → ℕ) k + (![n, 1024] : Fin 2 → ℕ) k ≤ S3584x1024.size k) : Memref sig .tc .vmem (legShape n) .bf16 := sndM.slice (legBlock n a h) (fun _ => rfl)
@[inherit_doc sndCut] abbrev rcvCut (n a : ℕ) (h : ∀ k, (![a, 0] : Fin 2 → ℕ) k + (![n, 1024] : Fin 2 → ℕ) k ≤ S3584x1024.size k) : Memref sig .tc .vmem (legShape n) .bf16 := rcvM.slice (legBlock n a h) (fun _ => rfl)
/-- Leg s's rows lie in the buffers. -/
theorem leg_fits (s : Fin 6) : ∀ k, (![at_ s, 0] : Fin 2 → ℕ) k + (![rows s, 1024] : Fin 2 → ℕ) k ≤ S3584x1024.size k := by revert s; decide
/-- Leg s's rows of the send buffer, and of the receive buffer. -/
abbrev sndLeg (s : Fin 6) : Memref sig .tc .vmem (legShape (rows s)) .bf16 := sndCut (rows s) (at_ s) (leg_fits s)
@[inherit_doc sndLeg] abbrev rcvLeg (s : Fin 6) : Memref sig .tc .vmem (legShape (rows s)) .bf16 := rcvCut (rows s) (at_ s) (leg_fits s)

/-- The barrier's counter, and the exit's. -/
abbrev barSem : Sem sig := ⟨1, by decide⟩
@[inherit_doc barSem] abbrev exitSem : Sem sig := ⟨0, by decide⟩

/-- A device's program. -/
abbrev Code (F : FTy → Type) : Type 1 := Prog (TpuEff nD τ sig (Elt F) Λ₀ .tc) PUnit.{1}
/-- The program after an operation. -/
abbrev Rest (F : FTy → Type) : Type 1 := PUnit.{1} → Code F

/-- The counter leg s's own copy raises when it has left. -/
abbrev sndSem (s : Fin 6) : Fin sig.nDmaSem := ⟨14 + s.val, lt_of_lt_of_le (show 14 + s.val < 26 by omega) (by decide)⟩
/-- The counter leg s's copy raises on the device it goes to. -/
abbrev rcvSem (s : Fin 6) : Fin sig.nDmaSem := ⟨20 + s.val, lt_of_lt_of_le (show 20 + s.val < 26 by omega) (by decide)⟩

/-- A barrier signal to the partner in bit b. -/
theorem wp_sig_bar (b : Fin 3) (d : Dev nD) (hd : d = pr b c) (k : Rest F) :
    iprop(recs X K ∗ owes (c : Thread nD τ) (dueBars c b.val) W ∗ dutyTok ER (cell (pr b c) .bar) 0 b ∗ reached ER (cell (pr b c) .bar) 0
        ∗ (∃ f, rPts c (legA b) f) ∗ (∃ f, rPts c (legB b) f)
        ∗ reached ER (cell c (.rcv (legA b))) 0 ∗ reached ER (cell c (.rcv (legB b))) 0 ∗ reached ER (cell c .exit) 0)
      ⊢ iprop((owes (c : Thread nD τ) (dueBars c (b.val + 1)) W -∗ wp frame (wpE (defs₀ (F := F)) 𝒱₀ c none) Set.univ (k ⟨⟩) Q)
        -∗ wp frame (wpE (defs₀ (F := F)) 𝒱₀ c none) Set.univ (.op (.semSignal (Dev.tc d) barSem ((1 : ℕ) : ℤ)) k : Code F) Q) := by
  subst hd
  iintro ⟨#HI, HO, Ht, #Hr, Ha, Hb, #Hra, #Hrb, #Hre⟩ Hk
  ihave #HIc := (recs_at X K (pr b c) .bar) $$ HI
  iapply (Rounds.wp_signal 𝒱₀ ER (sched X) (c : Thread nD τ) none (dst := (pr b c : Thread nD τ)) (sem := barSem) (r := 0) (d := b) (κ := K (cell (pr b c) .bar))
      (by show b ∈ (sched X).duties (cell (pr b c) .bar) 0; rw [duties_bar]; exact Finset.mem_univ b) (amount_bar X (pr b c) b) () (dueBars c (b.val + 1)) (dueBars_step c b))
    $$ [HO Ht Ha Hb]
  · isplitr; · iexact HIc
    isplitl [HO]; · iexact HO
    isplitl [Ht]; · iexact Ht
    isplitl [Ha Hb]
    · iapply (show barPay (pr b c) b ⊢ (sched X).payload ((pr b c : Thread nD τ), .reg barSem) 0 b from Entails.of_eq (payload_bar X (pr b c) b).symm)
      unfold barPay; rw [pr_pr]
      isplitl [Ha]; · iexact Ha
      isplitl [Hb]; · iexact Hb
      isplitr; · iexact Hra
      isplitr; · iexact Hrb
      iexact Hre
    · iexact Hr
  iexact Hk

/-- The wait at the barrier: what every partner hands over. -/
theorem wp_wait_bar (k : Rest F) :
    iprop(recs X K ∗ levAts L lv ∗ cred (tallyAt (cell c .bar) () 3) ∗ owes (c : Thread nD τ) (dueBars c 3) W ∗ atPos ER (cell c .bar) 0 ∅ 0)
      ⊢ iprop(((owes (c : Thread nD τ) (dueLegs c 0) (insert (Site.bar.sem, ()) W) ∗ atPos ER (cell c .bar) (0 + 1) ∅ 0 ∗ barPay c 0 ∗ barPay c 1 ∗ barPay c 2)
          -∗ wp frame (wpE (defs₀ (F := F)) 𝒱₀ c none) Set.univ (k ⟨⟩) Q)
        -∗ wp frame (wpE (defs₀ (F := F)) 𝒱₀ c none) Set.univ (.op (.semWait barSem ((3 : ℕ) : ℤ)) k : Code F) Q) := by
  rw [dueBars_end]
  iintro ⟨#HI, #Hlev, Hc, HO, Hat⟩ Hk
  ihave #HIc := (recs_at X K c .bar) $$ HI
  iapply (Rounds.wp_wait_rest_token 𝒱₀ ER (sched X) (c : Thread nD τ) none (sm := Site.bar.sem) (k' := 3) (κ := K (cell c .bar))
      (wpE_semWait_eq 𝒱₀ (c : Thread nD τ) none Set.univ) (Set.mem_univ _) () (O := dueLegs c 0) (W := W) (R := 0) (m := 0) (T := ∅)
      ((Nat.zero_add 3).trans (expect_bar X c).symm)) $$ [Hc HO Hat]
  · isplitr; · iexact HIc
    isplitl [Hc]; · iexact Hc
    isplitl [HO]; · iexact HO
    isplitr; · iapply (mayWait c .bar 0 1 (by rw [lv_cell]) (by decide) (by decide)); iexact Hlev
    iexact Hat
  iintro ⟨HO, Hat, -, Hpay⟩
  ihave Hp := (Entails.of_eq (rest_bar X c)) $$ Hpay
  iapply Hk
  isplitl [HO]; · iexact HO
  isplitl [Hat]; · iexact Hat
  iexact Hp

/-- Leg s's copy to the partner: the send slice goes with it, the partner's receive slice too. -/
theorem wp_leg_send (s : Fin 6) (d : Dev nD) (hd : d = mate s c) (f : Buf16 F)
    {hsc : (rcvLeg s).view.ref.isScScratch = false}
    {h1 : (sndLeg s).view.WordExact} {h2 : (rcvLeg s).view.WordExact}
    {h3 : DmaTarget.Typed .vmem (.dma (rcvSem s)) (.remote (Dev.tc d : Thread nD τ) (rcvLeg s) (.dma (sndSem s)) hsc)}
    (k : Rest F) :
    iprop(recs X K ∗ sPts c s (sentRows X c) ∗ rPts (mate s c) s f ∗ owes (c : Thread nD τ) (dueLegs c s.val) W
        ∗ dutyTok ER (cell c (.snd s)) 0 0 ∗ reached ER (cell c (.snd s)) 0 ∗ dutyTok ER (cell (mate s c) (.rcv s)) 0 0 ∗ reached ER (cell (mate s c) (.rcv s)) 0)
      ⊢ iprop(((cred (tallyAt (cell c (.snd s)) () (size s)) ∗ owes (c : Thread nD τ) (dueLegs c (s.val + 1)) W) -∗ wp frame (wpE (defs₀ (F := F)) 𝒱₀ c none) Set.univ (k ⟨⟩) Q)
        -∗ wp frame (wpE (defs₀ (F := F)) 𝒱₀ c none) Set.univ
          (.op (.enqueueDma (sndLeg s) (.remote (Dev.tc d) (rcvLeg s) (.dma (sndSem s)) hsc)
            (.dma (rcvSem s)) h1 h2 h3) k : Code F) Q) := by
  subst hd
  unfold sPts rPts
  iintro ⟨#HI, Hs, Hr, HO, Ht, #Hrs, Ht', #Hrr⟩ Hk
  ihave #HIs := (recs_at X K c (.snd s)) $$ HI
  ihave #HIr := (recs_at X K (mate s c) (.rcv s)) $$ HI
  iapply (Rounds.wp_send_pointsTo 𝒱₀ ER (sched X) (c : Thread nD τ) none (c' := (mate s c : Thread nD τ)) (src := sndLeg s) (dst := rcvM.slice (legRect s) (fun _ => rfl))
      (sS := (Site.snd s).sem) (sem := (Site.rcv s).sem) (q := fullShare) (fs := sentRows X c) (fd := f) (κ₁ := K (cell c (.snd s))) (κ₂ := K (cell (mate s c) (.rcv s)))
      (r₁ := 0) (r₂ := 0) (d₁ := 0) (d₂ := 0)
      (by show (0 : Fin 3) ∈ (sched X).duties (cell c (.snd s)) 0; rw [duties_snd]; exact Finset.mem_singleton_self _)
      (by show (0 : Fin 3) ∈ (sched X).duties (cell (mate s c) (.rcv s)) 0; rw [duties_rcv]; exact Finset.mem_singleton_self _)
      () () (size s) rfl (amount_snd X c s 0) (amount_rcv X (mate s c) s 0) (dueLegs c (s.val + 1)) (dueLegs_step c s)
      (Entails.of_eq (payload_snd X c s 0).symm)
      ((Entails.of_eq (by
        show _ = rPts (mate s c) s (sentRows X (mate s (mate s c)))
        rw [show mate s (mate s c) = c from pr_pr _ _]
        exact pointsTo_congr (landed s f (sentRows X c)))).trans (Entails.of_eq (payload_rcv X (mate s c) s 0).symm))) $$ [Hs Hr HO Ht Ht']
  · isplitr; · iexact HIs
    isplitr; · iexact HIr
    isplitl [Hs]; · iexact Hs
    isplitl [Hr]; · iexact Hr
    isplitl [HO]; · iexact HO
    isplitl [Ht]; · iexact Ht
    isplitr; · iexact Hrs
    isplitl [Ht']; · iexact Ht'
    iexact Hrr
  iexact Hk

/-- The wait for the own copy of leg s to have left: the send slice is back. -/
theorem wp_leg_left (s : Fin 6) {h1 : (rcvLeg s).view.WordExact} {h2 : (sndLeg s).view.WordExact} (k : Rest F) :
    iprop(recs X K ∗ levAts L lv ∗ cred (tallyAt (cell c (.snd s)) () (size s)) ∗ owes (c : Thread nD τ) (dueLegs c (s.val + 1)) W ∗ atPos ER (cell c (.snd s)) 0 ∅ 0)
      ⊢ iprop(((owes (c : Thread nD τ) (dueLegs c (s.val + 1)) (insert ((Site.snd s).sem, ()) W) ∗ atPos ER (cell c (.snd s)) (0 + 1) ∅ 0 ∗ sPts c s (sentRows X c))
          -∗ wp frame (wpE (defs₀ (F := F)) 𝒱₀ c none) Set.univ (k ⟨⟩) Q)
        -∗ wp frame (wpE (defs₀ (F := F)) 𝒱₀ c none) Set.univ
          (.op (.waitDma2 (sndSem s) (rcvLeg s) (sndLeg s) h1 h2) k : Code F) Q) := by
  iintro ⟨#HI, #Hlev, Hc, HO, Hat⟩ Hk
  ihave #HIc := (recs_at X K c (.snd s)) $$ HI
  iapply (Rounds.wp_wait_rest_token 𝒱₀ ER (sched X) (c : Thread nD τ) none (sm := (Site.snd s).sem) (k' := size s) (κ := K (cell c (.snd s)))
      (wpE_waitDma2_eq 𝒱₀ (c : Thread nD τ) none Set.univ) (Set.mem_univ _) () (O := dueLegs c (s.val + 1)) (W := W) (R := 0) (m := 0) (T := ∅)
      ((Nat.zero_add _).trans (expect_snd X c s).symm)) $$ [Hc HO Hat]
  · isplitr; · iexact HIc
    isplitl [Hc]; · iexact Hc
    isplitl [HO]; · iexact HO
    isplitr; · iapply (mayWait c (.snd s) (s.val + 1) 0 (by rw [lv_cell]) (by decide) (by omega)); iexact Hlev
    iexact Hat
  iintro ⟨HO, Hat, -, Hpay⟩
  ihave Hp := (Entails.of_eq (rest_snd X c s)) $$ Hpay
  iapply Hk
  isplitl [HO]; · iexact HO
  isplitl [Hat]; · iexact Hat
  iexact Hp

/-- The wait for the partner's copy of leg s: the receive slice holds the partner's rows. -/
theorem wp_leg_come (s : Fin 6) {h1 : (sndLeg s).view.WordExact} {h2 : (rcvLeg s).view.WordExact} (k : Rest F) :
    iprop(recs X K ∗ levAts L lv ∗ cred (tallyAt (cell c (.rcv s)) () (size s)) ∗ owes (c : Thread nD τ) (dueLegs c (s.val + 1)) W ∗ atPos ER (cell c (.rcv s)) 0 ∅ 0)
      ⊢ iprop(((owes (c : Thread nD τ) (dueLegs c (s.val + 1)) (insert ((Site.rcv s).sem, ()) W) ∗ atPos ER (cell c (.rcv s)) (0 + 1) ∅ 0 ∗ rPts c s (sentRows X (mate s c)))
          -∗ wp frame (wpE (defs₀ (F := F)) 𝒱₀ c none) Set.univ (k ⟨⟩) Q)
        -∗ wp frame (wpE (defs₀ (F := F)) 𝒱₀ c none) Set.univ
          (.op (.waitDma2 (rcvSem s) (sndLeg s) (rcvLeg s) h1 h2) k : Code F) Q) := by
  iintro ⟨#HI, #Hlev, Hc, HO, Hat⟩ Hk
  ihave #HIc := (recs_at X K c (.rcv s)) $$ HI
  iapply (Rounds.wp_wait_rest_token 𝒱₀ ER (sched X) (c : Thread nD τ) none (sm := (Site.rcv s).sem) (k' := size s) (κ := K (cell c (.rcv s)))
      (wpE_waitDma2_eq 𝒱₀ (c : Thread nD τ) none Set.univ) (Set.mem_univ _) () (O := dueLegs c (s.val + 1)) (W := W) (R := 0) (m := 0) (T := ∅)
      ((Nat.zero_add _).trans (expect_rcv X c s).symm)) $$ [Hc HO Hat]
  · isplitr; · iexact HIc
    isplitl [Hc]; · iexact Hc
    isplitl [HO]; · iexact HO
    isplitr; · iapply (mayWait c (.rcv s) (s.val + 1) (2 + s.val) (by rw [lv_cell]) (by omega) (by omega)); iexact Hlev
    iexact Hat
  iintro ⟨HO, Hat, -, Hpay⟩
  ihave Hp := (Entails.of_eq (rest_rcv X c s)) $$ Hpay
  iapply Hk
  isplitl [HO]; · iexact HO
  isplitl [Hat]; · iexact Hat
  iexact Hp

/-- An exit signal to the partner in bit b. -/
theorem wp_sig_exit (b : Fin 3) (d : Dev nD) (hd : d = pr b c) (k : Rest F) :
    iprop(recs X K ∗ owes (c : Thread nD τ) (tail (payExit c) b.val) W ∗ dutyTok ER (cell (pr b c) .exit) 0 b ∗ reached ER (cell (pr b c) .exit) 0)
      ⊢ iprop((owes (c : Thread nD τ) (tail (payExit c) (b.val + 1)) W -∗ wp frame (wpE (defs₀ (F := F)) 𝒱₀ c none) Set.univ (k ⟨⟩) Q)
        -∗ wp frame (wpE (defs₀ (F := F)) 𝒱₀ c none) Set.univ (.op (.semSignal (Dev.tc d) exitSem ((1 : ℕ) : ℤ)) k : Code F) Q) := by
  subst hd
  iintro ⟨#HI, HO, Ht, #Hr⟩ Hk
  ihave #HIc := (recs_at X K (pr b c) .exit) $$ HI
  iapply (Rounds.wp_signal 𝒱₀ ER (sched X) (c : Thread nD τ) none (dst := (pr b c : Thread nD τ)) (sem := exitSem) (r := 0) (d := b) (κ := K (cell (pr b c) .exit))
      (by show b ∈ (sched X).duties (cell (pr b c) .exit) 0; rw [duties_exit]; exact Finset.mem_univ b) (amount_exit X (pr b c) b) () (tail (payExit c) (b.val + 1)) (tail_step (payExit c) b))
    $$ [HO Ht]
  · isplitr; · iexact HIc
    isplitl [HO]; · iexact HO
    isplitl [Ht]; · iexact Ht
    isplitr
    · iapply (show (emp : sProp 𝕄) ⊢ (sched X).payload ((pr b c : Thread nD τ), .reg exitSem) 0 b from Entails.of_eq (payload_exit X (pr b c) b).symm); iempintro
    · iexact Hr
  iexact Hk

/-- The wait at the exit, owing nothing. -/
theorem wp_wait_exit (k : Rest F) :
    iprop(recs X K ∗ cred (tallyAt (cell c .exit) () 3) ∗ owes (c : Thread nD τ) (tail (payExit c) 3) W ∗ atPos ER (cell c .exit) 0 ∅ 0)
      ⊢ iprop(((owes (c : Thread nD τ) 0 (insert (Site.exit.sem, ()) W) ∗ atPos ER (cell c .exit) (0 + 1) ∅ 0)
          -∗ wp frame (wpE (defs₀ (F := F)) 𝒱₀ c none) Set.univ (k ⟨⟩) Q)
        -∗ wp frame (wpE (defs₀ (F := F)) 𝒱₀ c none) Set.univ (.op (.semWait exitSem ((3 : ℕ) : ℤ)) k : Code F) Q) := by
  rw [tail_end]
  iintro ⟨#HI, Hc, HO, Hat⟩ Hk
  ihave #HIc := (recs_at X K c .exit) $$ HI
  iapply (Rounds.wp_wait_rest_token 𝒱₀ ER (sched X) (c : Thread nD τ) none (sm := Site.exit.sem) (k' := 3) (κ := K (cell c .exit))
      (wpE_semWait_eq 𝒱₀ (c : Thread nD τ) none Set.univ) (Set.mem_univ _) () (O := 0) (W := W) (R := 0) (m := 0) (T := ∅)
      ((Nat.zero_add 3).trans (expect_exit X c).symm)) $$ [Hc HO Hat]
  · isplitr; · iexact HIc
    isplitl [Hc]; · iexact Hc
    isplitl [HO]; · iexact HO
    isplitr; · rw [MayWait_zero]; iempintro
    iexact Hat
  iintro ⟨HO, Hat, -, -⟩
  iapply Hk
  isplitl [HO]; · iexact HO
  iexact Hat

end Cert.KernelIdeal.Halving
-- ==== Proof.Attend.lean ====
/-
  The attention body, run once from its six staging buffers: what it leaves in the result's, as a function of what
  the six hold.
-/
module

public import proofs.«01_k».proof.Proof.Steps
public import proofs.«01_k».proof.Proof.Gen.KernelIdeal.Skeleton
public import Idealize.ShloMosaic.Lib.Pipeline.Value
public import Idealize.ShloMosaic.Lib.Tactic

@[expose] public section

noncomputable section

namespace Cert.KernelIdeal.Attend

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Halving

variable {F : FTy → Type} [FloatOps F] [Named F]

local notation "𝕄" => MT nD τ sig Unit (Elt F) ℕ UU ℕ

/-- A memref's buffer held whole. -/
abbrev pt (c : Dev nD) {S : Shape} {e : EltTy} (M : Memref sig .tc .vmem S e) (f : Buf (Elt F) (M.view.loc (c : Thread nD τ))) : sProp 𝕄 :=
  M.view.loc (c : Thread nD τ) ↦{fullShare} f

section

variable (c : Dev nD) (i : grid0.Coords)
  (a2 : Memref sig .tc .vmem S256x1024 .bf16) (h2 : a2.IsWhole) (a3 : Memref sig .tc .vmem S1024x128 .bf16) (h3 : a3.IsWhole)
  (a4 : Memref sig .tc .vmem S1x2048x128 .bf16) (h4 : a4.IsWhole) (a5 : Memref sig .tc .vmem S1x2048x128 .bf16) (h5 : a5.IsWhole)
  (a6 : Memref sig .tc .vmem S128x1024 .bf16) (h6 : a6.IsWhole) (a7 : Memref sig .tc .vmem S256x1024 .f32) (h7 : a7.IsWhole)
  (f2 : Buf (Elt F) (a2.view.loc (c : Thread nD τ))) (f3 : Buf (Elt F) (a3.view.loc (c : Thread nD τ))) (f4 : Buf (Elt F) (a4.view.loc (c : Thread nD τ)))
  (f5 : Buf (Elt F) (a5.view.loc (c : Thread nD τ))) (f6 : Buf (Elt F) (a6.view.loc (c : Thread nD τ))) (f7 : Buf (Elt F) (a7.view.loc (c : Thread nD τ)))

/-- The result's staging buffer as the accumulation finds it: cleared at the first head. -/
def opening (o : Vec F S256x1024 .f32) : Vec F S256x1024 .f32 := if k0_cond1 i = 1#1 then k0_pay1 else o

/-- The first rows' block: the head's attention over all the columns, through its rows of the output projection, added. -/
def addAll (x : Vec F S256x1024 .bf16) (wq : Vec F S1024x128 .bf16) (k v : Vec F S1x2048x128 .bf16) (wo : Vec F S128x1024 .bf16)
    (o : Vec F S256x1024 .f32) : Vec F S256x1024 .f32 :=
  k0_pay4 (k0_pay6 o) (k0_pay7 (k0_pay2 x wq) (k0_pay3 i) k v) (k0_pay8 wo) (constant S256x1024 .f32 0x00000000#32)

/-- A later block: the same over the first columns and the window about the rows. -/
def addNear (e3 : k0_cond3 i = 1#1) (x : Vec F S256x1024 .bf16) (wq : Vec F S1024x128 .bf16) (k v : Vec F S1x2048x128 .bf16)
    (wo : Vec F S128x1024 .bf16) (o : Vec F S256x1024 .f32) : Vec F S256x1024 .f32 :=
  k0_pay5 (k0_pay9 (View.ld v (Rect.unit (s := S1x2048x128) ![0, 0, 0] S1x256x128.size inb_S1x2048x128_S1x256x128_0_0_0))
      (View.ld v (Rect.unit (s := S1x2048x128) (k0_off1 i) S1x512x128.size (k0_off1_inb i e3))))
    (k0_pay10 (BitVec.ofNat 32 (i 0).val) (k0_pay3 i))
    (k0_pay11 (k0_pay2 x wq) (View.ld k (Rect.unit (s := S1x2048x128) ![0, 0, 0] S1x256x128.size inb_S1x2048x128_S1x256x128_0_0_0))
      (View.ld k (Rect.unit (s := S1x2048x128) (k0_off1 i) S1x512x128.size (k0_off1_inb i e3)))) o wo

/-- What the body leaves in the result's staging buffer. -/
def step (x : Vec F S256x1024 .bf16) (wq : Vec F S1024x128 .bf16) (k v : Vec F S1x2048x128 .bf16) (wo : Vec F S128x1024 .bf16)
    (o : Vec F S256x1024 .f32) : Vec F S256x1024 .f32 :=
  if e3 : k0_cond3 i = 1#1 then addNear i e3 x wq k v wo (opening i o) else addAll i x wq k v wo (opening i o)

/-- The zero offset, of two axes. -/
theorem hz2 : (![0, 0] : Fin 2 → Nat) = fun _ => 0 := funext fun a => by fin_cases a <;> rfl
/-- The zero offset, of three axes. -/
theorem hz3 : (![0, 0, 0] : Fin 3 → Nat) = fun _ => 0 := funext fun a => by fin_cases a <;> rfl

/-- A store of the whole block leaves its payload, whatever came before. -/
theorem last_store {S : Shape} {e : EltTy} (M : Memref sig .tc .vmem S e) {off : Fin S.rank → Nat} (h : off = fun _ => 0)
    (inb : ∀ a, off a + S.size a ≤ S.size a) (f : M.view.ty.Contents (Elt F)) (w : S.Idx → Elt F e) (l : List (View.Piece (Elt F) S e)) :
    M.view.read (Elt F) (M.view.writes (Elt F) f ((⟨Rect.unit off S.size inb, w⟩ : View.Piece (Elt F) S e) :: l)) = w := by
  rw [View.read_writes_eq_canon _ _ _ fun y => ⟨_, List.mem_cons_self, View.mem_set_unit_zero h inb y⟩]
  exact View.canon_cons_unit_zero h inb w l

set_option maxRecDepth 8192 in
/-- Exactly one of the two bodies is taken. -/
theorem one_body : k0_cond2 i = 1#1 ↔ ¬ k0_cond3 i = 1#1 := by
  have key : ∀ n : Fin 8, ((Scalar.cmpi .ne (Scalar.extui (Scalar.cmpi .eq (BitVec.ofNat 32 n.val) 0#32)) (0#32 : BitVec 32)) = 1#1)
      ↔ ¬ ((Scalar.cmpi .ne (Scalar.extui (Scalar.cmpi .sgt (BitVec.ofNat 32 n.val) 0#32)) (0#32 : BitVec 32)) = 1#1) := by
    intro n
    fin_cases n <;> decide
  exact key (i 0)

set_option maxHeartbeats 4000000 in
/-- The body's run, at a grid point. -/
theorem body_run (Q : PUnit → sProp 𝕄) :
    iprop(pt c a2 f2 ∗ pt c a3 f3 ∗ pt c a4 f4 ∗ pt c a5 f5 ∗ pt c a6 f6 ∗ pt c a7 f7
        ∗ (iprop(pt c a2 f2 ∗ pt c a3 f3 ∗ pt c a4 f4 ∗ pt c a5 f5 ∗ pt c a6 f6
          ∗ ∃ W, ⌜a7.view.read (Elt F) W = step i (a2.view.read (Elt F) f2) (a3.view.read (Elt F) f3) (a4.view.read (Elt F) f4) (a5.view.read (Elt F) f5)
              (a6.view.read (Elt F) f6) (a7.view.read (Elt F) f7)⌝ ∗ pt c a7 W) -∗ Q ⟨⟩))
      ⊢ wp frame (wpE (defs₀ (F := F)) 𝒱₀ c none) Set.univ (cc0__attn_body i a2 h2 a3 h3 a4 h4 a5 h5 a6 h6 a7 h7) Q := by
  rw [cc0__attn_body_eq_skeleton]
  unfold cc0__attn_body_skel
  rw [k0_part1_eq_skeleton, k0_part2_eq_skeleton]
  unfold step opening
  by_cases e3 : k0_cond3 i = 1#1 <;> by_cases e1 : k0_cond1 i = 1#1
  all_goals
    have e2 := one_body i
    simp only [e3, not_true_eq_false, not_false_eq_true, iff_false, iff_true] at e2
    simp only [e1, e3, dite_true, dite_false, if_true, if_false]
    iintro ⟨H2, H3, H4, H5, H6, H7, Hk⟩
    sl_exec
    sl_step
    iapply Hk
    isplitl [H2]; · iexact H2
    isplitl [H3]; · iexact H3
    isplitl [H4]; · iexact H4
    isplitl [H5]; · iexact H5
    isplitl [H6]; · iexact H6
    iexists _
    isplitr
    swap
    · iexact H7
    ipureintro
    sl_unfold_words
    refine (last_store (S := S256x1024) a7 hz2 _ _ _ _).trans ?_
    simp only [View.readCov_unit_zero (S := S256x1024) _ hz2, View.readAt_eq_ld, View.ld_unit_zero (S := S256x1024) hz2,
      View.ld_unit_zero (S := S1024x128) hz2, View.ld_unit_zero (S := S128x1024) hz2, View.ld_unit_zero (S := S1x2048x128) hz3]
    rfl

end

end Cert.KernelIdeal.Attend
-- ==== Proof.Legs.lean ====
/-
  One leg of the exchange, over the program's own operations: the rows for the partner rounded into the
  send buffer, sent, and the partner's rows come; then added to the rows kept, or put in their place.
-/
module

public import proofs.«01_k».proof.Proof.Steps

@[expose] public section

noncomputable section

namespace Cert.KernelIdeal.Halving

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (X : Dev nD → Arr F)

/-- The output staging buffer of device c, holding o. -/
abbrev outAt (c : Dev nD) (o : Arr F) : sProp 𝕄 := outM.view.loc (c : Thread nD τ) ↦[Finset.univ]{fullShare} o

/-- What a device holds for a leg before it: its counters at their start, the duties of its copy, the
    credit for the partner's, its send slice. -/
def legStart (c : Dev nD) (s : Fin 6) : sProp 𝕄 :=
  iprop(atPos ER (cell c (.snd s)) 0 ∅ 0 ∗ atPos ER (cell c (.rcv s)) 0 ∅ 0 ∗ dutyTok ER (cell c (.snd s)) 0 0 ∗ dutyTok ER (cell (mate s c) (.rcv s)) 0 0
    ∗ cred (tallyAt (cell c (.rcv s)) () (size s)) ∗ (∃ f, sPts c s f) ∗ reached ER (cell c (.snd s)) 0)
/-- What the partner of a leg hands over at the barrier. -/
def legGrant (c : Dev nD) (s : Fin 6) : sProp 𝕄 :=
  iprop((∃ f, rPts (mate s c) s f) ∗ reached ER (cell (mate s c) (.rcv s)) 0)
/-- What a device holds for a leg after it: its counters past their round, its own two slices. -/
def legEnd (c : Dev nD) (s : Fin 6) : sProp 𝕄 :=
  iprop(atPos ER (cell c (.snd s)) 1 ∅ 0 ∗ atPos ER (cell c (.rcv s)) 1 ∅ 0 ∗ (∃ f, sPts c s f) ∗ (∃ f, rPts c s f))

variable (K : GSem nD τ sig → ℕ) (c : Dev nD) {Q : PUnit.{1} → sProp (MT nD τ sig Unit (Elt F) ℕ UU ℕ)}

/-- Elements of leg s's rows. -/
abbrev Rows (F : FTy → Type) (s : Fin 6) (φ : EltTy) : Type := (legShape (rows s)).Idx → Elt F φ

/-- A leg moves something. -/
theorem rows_pos (s : Fin 6) : 0 < (legShape (rows s)).numel := by revert s; decide
/-- A leg's rows fill whole words. -/
theorem leg_packed (s : Fin 6) : (legRect s).PackedRows (EltTy.packing .bf16) := by revert s; decide
/-- A leg's rows are whole words. -/
theorem leg_words (s : Fin 6) : (legRect s).WholeWords (EltTy.packing .bf16) := by revert s; decide
/-- A leg's send rows are whole words. -/
theorem snd_exact (s : Fin 6) : (sndLeg s).view.WordExact := (Memref.isWhole_whole _).wordExact_slice rfl _ (leg_words s)
/-- A leg's receive rows are whole words. -/
theorem rcv_exact (s : Fin 6) : (rcvLeg s).view.WordExact := (Memref.isWhole_whole _).wordExact_slice rfl _ (leg_words s)

/-- The rows of the output buffer from an offset. -/
abbrev outRect (s : Fin 6) (off : Fin 2 → ℕ) (h : ∀ k, off k + (![rows s, 1024] : Fin 2 → ℕ) k ≤ S2048x1024.size k) : Rect S2048x1024 :=
  Rect.unit (s := S2048x1024) off ![rows s, 1024] h

/-- A leg's exchange, as the body writes it. -/
def swapCode (s : Fin 6) (off : Fin 2 → ℕ) (hb : ∀ k, off k + (![rows s, 1024] : Fin 2 → ℕ) k ≤ S2048x1024.size k) (d : Dev nD) (p : Rows F s .f32 → Rows F s .bf16) (k : Rest F) : Code F :=
  .op (.load outM (outRect s off hb).toLoadRect (View.loadsAt_vmem (rows_pos s))) fun v =>
  .op (.load sndM (legRect s).toLoadRect (View.loadsAt_vmem (rows_pos s))) fun _ =>
  .op (.store sndM (legRect s) (p v) Finset.univ (View.stores_vmem (rows_pos s) ((Memref.isWhole_whole _).storeExact_slice rfl _ (leg_packed s)) (fun _ => rfl)) (.inl rfl)) fun _ =>
  .op (.enqueueDma (sndLeg s) (.remote (Dev.tc d) (rcvLeg s) (.dma (sndSem s))) (.dma (rcvSem s)) (snd_exact s) (rcv_exact s) ⟨⟨rfl, Or.inl rfl⟩, trivial⟩) fun _ =>
  .op (.waitDma2 (sndSem s) (rcvLeg s) (sndLeg s) (rcv_exact s) (snd_exact s)) fun _ =>
  .op (.waitDma2 (rcvSem s) (sndLeg s) (rcvLeg s) (snd_exact s) (rcv_exact s)) k
/-- The end of a leg of the first half: the received rows added to the kept ones. -/
def addCode (s : Fin 6) (off : Fin 2 → ℕ) (hb : ∀ k, off k + (![rows s, 1024] : Fin 2 → ℕ) k ≤ S2048x1024.size k) (q : Rows F s .f32 → Rows F s .bf16 → Rows F s .f32) (k : Rest F) : Code F :=
  .op (.load outM (outRect s off hb).toLoadRect (View.loadsAt_vmem (rows_pos s))) fun v =>
  .op (.load rcvM (legRect s).toLoadRect (View.loadsAt_vmem (rows_pos s))) fun w =>
  .op (.load outM (outRect s off hb).toLoadRect (View.loadsAt_vmem (rows_pos s))) fun _ =>
  .op (.store outM (outRect s off hb) (q v w) Finset.univ (View.stores_vmem_bits_univ (rows_pos s) rfl) (.inl rfl)) k
/-- The end of a leg of the second half: the received rows put in their place. -/
def putCode (s : Fin 6) (off : Fin 2 → ℕ) (hb : ∀ k, off k + (![rows s, 1024] : Fin 2 → ℕ) k ≤ S2048x1024.size k) (q : Rows F s .bf16 → Rows F s .f32) (k : Rest F) : Code F :=
  .op (.load rcvM (legRect s).toLoadRect (View.loadsAt_vmem (rows_pos s))) fun w =>
  .op (.load outM (outRect s off hb).toLoadRect (View.loadsAt_vmem (rows_pos s))) fun _ =>
  .op (.store outM (outRect s off hb) (q w) Finset.univ (View.stores_vmem_bits_univ (rows_pos s) rfl) (.inl rfl)) k

/-- What a read of the output buffer finds. -/
theorem read_out (s : Fin 6) (o : Arr F) (off : Fin 2 → ℕ) (a : ℕ) (hoff : off = ![a, 0]) (h) (x : (Rect.unit (s := S2048x1024) off ![rows s, 1024] h).shape.Idx) (i : S2048x1024.Idx)
    (h0 : (i 0).val = a + (x 0).val) (h1 : (i 1).val = (x 1).val) :
    (outM.access (Rect.unit (s := S2048x1024) off ![rows s, 1024] h)).read (Elt F) o x = o i := by
  subst hoff
  rw [View.read_apply]
  refine congrArg o (funext fun b => Fin.ext ?_)
  match b with
  | ⟨0, _⟩ => show a + 1 * (x 0).val = (i 0).val; omega
  | ⟨1, _⟩ => show 0 + 1 * (x 1).val = (i 1).val; omega

/-- A leg's exchange: the rows for the partner are rounded into the send slice and sent; the send slice
    comes back, and the partner's rows are in the receive slice. -/
theorem wp_leg_swap (s : Fin 6) {W : Waits sig Unit} (off : Fin 2 → ℕ) (hoff : off = ![sendLo s c, 0]) (d : Dev nD) (hd : d = mate s c)
    (p : (Rows F s .f32) → Rows F s .bf16) (hp : ∀ v x, p v x = tr (v x))
    (hb : ∀ k, off k + (![rows s, 1024] : Fin 2 → ℕ) k ≤ S2048x1024.size k) (k : Rest F) :
    iprop(recs X K ∗ levAts L lv ∗ legStart c s ∗ legGrant c s ∗ outAt c (held X s.val c) ∗ owes (c : Thread nD τ) (dueLegs c s.val) W)
      ⊢ iprop(((atPos ER (cell c (.snd s)) 1 ∅ 0 ∗ atPos ER (cell c (.rcv s)) 1 ∅ 0 ∗ (∃ f, sPts c s f) ∗ rPts c s (sentRows X (mate s c)) ∗ outAt c (held X s.val c)
            ∗ ∃ W, owes (c : Thread nD τ) (dueLegs c (s.val + 1)) W)
          -∗ wp frame (wpE (defs₀ (F := F)) 𝒱₀ c none) Set.univ (k ⟨⟩) Q)
        -∗ wp frame (wpE (defs₀ (F := F)) 𝒱₀ c none) Set.univ (swapCode s off hb d p k) Q) := by
  unfold swapCode
  unfold legStart legGrant
  iintro ⟨#HI, #Hlev, ⟨Hsat, Hrat, Hst, Hrt, Hcr, Hs, #Hrs⟩, ⟨Hg, #Hrr⟩, Ho, HO⟩ Hk
  icases Hs with ⟨%f, Hs⟩
  icases Hg with ⟨%g, Hg⟩
  unfold outAt
  iapply (wp_load_rect 𝒱₀ (c : Thread nD τ) none Set.univ (S := Finset.univ) (Finset.subset_univ _)) $$ [Ho]
  · iexact Ho
  iintro Ho
  iapply (wp_load_rect 𝒱₀ (c : Thread nD τ) none Set.univ (m := sndM) (r := legRect s) (S := (sndM.access (legRect s)).set) (Finset.Subset.refl _)) $$ [Hs]
  · iexact Hs
  iintro Hs
  iapply (wp_store 𝒱₀ (c : Thread nD τ) none Set.univ (m := sndM) (r := legRect s) (S := (sndM.access (legRect s)).set) (Finset.Subset.refl _)) $$ [Hs]
  · iexact Hs
  iintro Hs
  ihave Hs' := (show _ ⊢ sPts c s (sentRows X c) from Entails.of_eq (pointsTo_congr (write_snd X s c f (p ((outM.access (Rect.unit (s := S2048x1024) off ![rows s, 1024] hb)).read (Elt F) (held X s.val c))) fun x i h0 h1 =>
    (hp _ x).trans (congrArg tr (read_out s (held X s.val c) off (sendLo s c) hoff hb x i h0 h1))))) $$ Hs
  iapply (wp_leg_send X K c s d hd g) $$ [Hs' Hg HO Hst Hrt]
  · isplitr; · iexact HI
    isplitl [Hs']; · iexact Hs'
    isplitl [Hg]; · iexact Hg
    isplitl [HO]; · iexact HO
    isplitl [Hst]; · iexact Hst
    isplitr; · iexact Hrs
    isplitl [Hrt]; · iexact Hrt
    iexact Hrr
  iintro ⟨Hcs, HO⟩
  iapply (wp_leg_left X K c s) $$ [Hcs HO Hsat]
  · isplitr; · iexact HI
    isplitr; · iexact Hlev
    isplitl [Hcs]; · iexact Hcs
    isplitl [HO]; · iexact HO
    iexact Hsat
  iintro ⟨HO, Hsat, Hs⟩
  iapply (wp_leg_come X K c s) $$ [Hcr HO Hrat]
  · isplitr; · iexact HI
    isplitr; · iexact Hlev
    isplitl [Hcr]; · iexact Hcr
    isplitl [HO]; · iexact HO
    iexact Hrat
  iintro ⟨HO, Hrat, Hr⟩
  iapply Hk
  isplitl [Hsat]; · iexact Hsat
  isplitl [Hrat]; · iexact Hrat
  isplitl [Hs]; · iexists _; iexact Hs
  isplitl [Hr]; · iexact Hr
  isplitl [Ho]; · iexact Ho
  iexists _; iexact HO

/-- A leg of the first half after its exchange: the received rows are added to the kept ones. -/
theorem wp_leg_add (s : Fin 6) (hs : s.val < 3) (off : Fin 2 → ℕ) (hoff : off = ![keepLo s c, 0])
    (q : (Rows F s .f32) → (Rows F s .bf16) → Rows F s .f32) (hq : ∀ v w x, q v w x = FloatOps.addf (v x) (ex (w x)))
    (hb : ∀ k, off k + (![rows s, 1024] : Fin 2 → ℕ) k ≤ S2048x1024.size k) (k : Rest F) :
    iprop(rPts c s (sentRows X (mate s c)) ∗ outAt c (held X s.val c))
      ⊢ iprop((((∃ f, rPts c s f) ∗ outAt c (held X (s.val + 1) c)) -∗ wp frame (wpE (defs₀ (F := F)) 𝒱₀ c none) Set.univ (k ⟨⟩) Q)
        -∗ wp frame (wpE (defs₀ (F := F)) 𝒱₀ c none) Set.univ (addCode s off hb q k) Q) := by
  unfold addCode
  unfold outAt
  iintro ⟨Hr, Ho⟩ Hk
  iapply (wp_load_rect 𝒱₀ (c : Thread nD τ) none Set.univ (S := Finset.univ) (Finset.subset_univ _)) $$ [Ho]
  · iexact Ho
  iintro Ho
  iapply (wp_load_rect 𝒱₀ (c : Thread nD τ) none Set.univ (m := rcvM) (r := legRect s) (S := (rcvM.access (legRect s)).set) (Finset.Subset.refl _)) $$ [Hr]
  · iexact Hr
  iintro Hr
  iapply (wp_load_rect 𝒱₀ (c : Thread nD τ) none Set.univ (S := Finset.univ) (Finset.subset_univ _)) $$ [Ho]
  · iexact Ho
  iintro Ho
  iapply (wp_store 𝒱₀ (c : Thread nD τ) none Set.univ (S := Finset.univ) (Finset.subset_univ _)) $$ [Ho]
  · iexact Ho
  iintro Ho
  ihave Ho' := (Entails.of_eq (congrArg (outAt c) (write_out X s c hoff hb _ fun x i h0 h1 => by
    rw [hq, put, if_pos hs, read_out s (held X s.val c) off (keepLo s c) hoff hb x i h0 h1]
    exact congrArg (fun y => FloatOps.addf _ (ex y)) (read_rcv X s c x i h0 h1)))) $$ Ho
  iapply Hk
  isplitl [Hr]; · iexists _; iexact Hr
  iexact Ho'

/-- A leg of the second half after its exchange: the received rows are put in their place. -/
theorem wp_leg_put (s : Fin 6) (hs : ¬ s.val < 3) (off : Fin 2 → ℕ) (hoff : off = ![keepLo s c, 0])
    (q : (Rows F s .bf16) → Rows F s .f32) (hq : ∀ w x, q w x = ex (w x))
    (hb : ∀ k, off k + (![rows s, 1024] : Fin 2 → ℕ) k ≤ S2048x1024.size k) (k : Rest F) :
    iprop(rPts c s (sentRows X (mate s c)) ∗ outAt c (held X s.val c))
      ⊢ iprop((((∃ f, rPts c s f) ∗ outAt c (held X (s.val + 1) c)) -∗ wp frame (wpE (defs₀ (F := F)) 𝒱₀ c none) Set.univ (k ⟨⟩) Q)
        -∗ wp frame (wpE (defs₀ (F := F)) 𝒱₀ c none) Set.univ (putCode s off hb q k) Q) := by
  unfold putCode
  unfold outAt
  iintro ⟨Hr, Ho⟩ Hk
  iapply (wp_load_rect 𝒱₀ (c : Thread nD τ) none Set.univ (m := rcvM) (r := legRect s) (S := (rcvM.access (legRect s)).set) (Finset.Subset.refl _)) $$ [Hr]
  · iexact Hr
  iintro Hr
  iapply (wp_load_rect 𝒱₀ (c : Thread nD τ) none Set.univ (S := Finset.univ) (Finset.subset_univ _)) $$ [Ho]
  · iexact Ho
  iintro Ho
  iapply (wp_store 𝒱₀ (c : Thread nD τ) none Set.univ (S := Finset.univ) (Finset.subset_univ _)) $$ [Ho]
  · iexact Ho
  iintro Ho
  ihave Ho' := (Entails.of_eq (congrArg (outAt c) (write_out X s c hoff hb _ fun x i h0 h1 => by
    rw [hq, put, if_neg hs]
    exact congrArg ex (read_rcv X s c x i h0 h1)))) $$ Ho
  iapply Hk
  isplitl [Hr]; · iexists _; iexact Hr
  iexact Ho'

end Cert.KernelIdeal.Halving
-- ==== Proof.AllReduce.lean ====
/-
  The all-reduce's body, from its opened state to the state after all its rounds.
-/
module

public import proofs.«01_k».proof.Proof.Legs
public import proofs.«01_k».proof.Proof.Gen.KernelIdeal.Points
public import proofs.«01_k».proof.Proof.Gen.KernelIdeal.Launch

@[expose] public section

noncomputable section

namespace Cert.KernelIdeal.Halving

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (X : Dev nD → Arr F)

/-- What a device holds of the partner in bit b: the duties on that partner's barrier and exit. -/
def barHold (c : Dev nD) (b : Fin 3) : sProp 𝕄 :=
  iprop(dutyTok ER (cell (pr b c) .bar) 0 b ∗ reached ER (cell (pr b c) .bar) 0 ∗ dutyTok ER (cell (pr b c) .exit) 0 b)
/-- A receive slice of its own, and that its counter is at its first round. -/
def rcvHold (c : Dev nD) (s : Fin 6) : sProp 𝕄 := iprop((∃ f, rPts (F := F) c s f) ∗ reached ER (cell c (.rcv s)) 0)

/-- What a device holds at the body's start. -/
def opened (c : Dev nD) : sProp 𝕄 :=
  iprop(atPos ER (cell c .bar) 0 ∅ 0 ∗ atPos ER (cell c .exit) 0 ∅ 0 ∗ reached ER (cell c .exit) 0
    ∗ cred (tallyAt (cell c .bar) () 3) ∗ cred (tallyAt (cell c .exit) () 3)
    ∗ (bigSep Finset.univ fun b : Fin 3 => barHold c b) ∗ (bigSep Finset.univ fun s : Fin 6 => legStart c s) ∗ bigSep Finset.univ fun s : Fin 6 => rcvHold c s)
/-- What a device holds at the body's end. -/
def finished (c : Dev nD) : sProp 𝕄 :=
  iprop(atPos ER (cell c .bar) 1 ∅ 0 ∗ atPos ER (cell c .exit) 1 ∅ 0 ∗ bigSep Finset.univ fun s : Fin 6 => legEnd c s)

/-- The input staging buffer. -/
abbrev inM : Memref sig .tc .vmem S2048x1024 .f32 := Memref.whole cc1_stg0_0
/-- The input staging buffer of device c, holding o. -/
abbrev inAt (c : Dev nD) (o : Arr F) : sProp 𝕄 := inM.view.loc (c : Thread nD τ) ↦[Finset.univ]{fullShare} o

variable (K : GSem nD τ sig → ℕ) (c : Dev nD)

/-- The devices that the body signals at the barrier. -/
theorem bar_dev (c : Dev nD) : k1_dev1 c = (pr 0 c).val ∧ k1_dev2 c = (pr 1 c).val ∧ k1_dev3 c = (pr 2 c).val := by revert c; decide
/-- The devices that the body signals at the exit. -/
theorem exit_dev (c : Dev nD) : k1_dev10 c = (pr 0 c).val ∧ k1_dev11 c = (pr 1 c).val ∧ k1_dev12 c = (pr 2 c).val := by revert c; decide
/-- The devices that the body's copies go to. -/
theorem leg_dev (c : Dev nD) : k1_dev4 c = (mate 0 c).val ∧ k1_dev5 c = (mate 1 c).val ∧ k1_dev6 c = (mate 2 c).val
    ∧ k1_dev7 c = (mate 3 c).val ∧ k1_dev8 c = (mate 4 c).val ∧ k1_dev9 c = (mate 5 c).val := by revert c; decide
/-- The rows that each leg reads for its copy. -/
theorem send_off (c : Dev nD) : k1_off1 c = ![sendLo 0 c, 0] ∧ k1_off3 c = ![sendLo 1 c, 0] ∧ k1_off5 c = ![sendLo 2 c, 0]
    ∧ k1_off7 c = ![sendLo 3 c, 0] ∧ k1_off9 c = ![sendLo 4 c, 0] ∧ k1_off11 c = ![sendLo 5 c, 0] := by revert c; decide
/-- The rows that each leg writes. -/
theorem keep_off (c : Dev nD) : k1_off2 c = ![keepLo 0 c, 0] ∧ k1_off4 c = ![keepLo 1 c, 0] ∧ k1_off6 c = ![keepLo 2 c, 0]
    ∧ k1_off8 c = ![keepLo 3 c, 0] ∧ k1_off10 c = ![keepLo 4 c, 0] ∧ k1_off12 c = ![keepLo 5 c, 0] := by revert c; decide

/-- The whole of an array of 2048 rows. -/
abbrev wholeRect : Rect S2048x1024 := Rect.unit (s := S2048x1024) ![0, 0] S2048x1024.size inb_S2048x1024_S2048x1024_0_0

/-- The body's program on device c, leg by leg. -/
def talkCode (c : Dev nD) : Code F :=
  .op (.semSignal (Dev.tc ⟨k1_dev1 c, k1_dev1_lt c⟩) barSem ((1 : ℕ) : ℤ)) fun _ =>
  .op (.semSignal (Dev.tc ⟨k1_dev2 c, k1_dev2_lt c⟩) barSem ((1 : ℕ) : ℤ)) fun _ =>
  .op (.semSignal (Dev.tc ⟨k1_dev3 c, k1_dev3_lt c⟩) barSem ((1 : ℕ) : ℤ)) fun _ =>
  .op (.semWait barSem ((3 : ℕ) : ℤ)) fun _ =>
  .op (.load inM wholeRect.toLoadRect (View.loadsAt_vmem h_S2048x1024)) fun v =>
  .op (.load outM wholeRect.toLoadRect (View.loadsAt_vmem h_S2048x1024)) fun _ =>
  .op (.store outM wholeRect (k1_pay2 v) Finset.univ (View.stores_vmem_bits_univ h_S2048x1024 rfl) (.inl rfl)) fun _ =>
  swapCode 0 (k1_off1 c) (k1_off1_inb c) ⟨k1_dev4 c, k1_dev4_lt c⟩ (fun v => k1_pay4 (k1_pay3 v)) fun _ =>
  addCode 0 (k1_off2 c) (k1_off2_inb c) k1_pay5 fun _ =>
  swapCode 1 (k1_off3 c) (k1_off3_inb c) ⟨k1_dev5 c, k1_dev5_lt c⟩ (k1_pay6) fun _ =>
  addCode 1 (k1_off4 c) (k1_off4_inb c) k1_pay7 fun _ =>
  swapCode 2 (k1_off5 c) (k1_off5_inb c) ⟨k1_dev6 c, k1_dev6_lt c⟩ (k1_pay8) fun _ =>
  addCode 2 (k1_off6 c) (k1_off6_inb c) k1_pay9 fun _ =>
  swapCode 3 (k1_off7 c) (k1_off7_inb c) ⟨k1_dev7 c, k1_dev7_lt c⟩ (k1_pay10) fun _ =>
  putCode 3 (k1_off8 c) (k1_off8_inb c) k1_pay11 fun _ =>
  swapCode 4 (k1_off9 c) (k1_off9_inb c) ⟨k1_dev8 c, k1_dev8_lt c⟩ (k1_pay12) fun _ =>
  putCode 4 (k1_off10 c) (k1_off10_inb c) k1_pay13 fun _ =>
  swapCode 5 (k1_off11 c) (k1_off11_inb c) ⟨k1_dev9 c, k1_dev9_lt c⟩ (k1_pay14) fun _ =>
  putCode 5 (k1_off12 c) (k1_off12_inb c) k1_pay1 fun _ =>
  .op (.semSignal (Dev.tc ⟨k1_dev10 c, k1_dev10_lt c⟩) exitSem ((1 : ℕ) : ℤ)) fun _ =>
  .op (.semSignal (Dev.tc ⟨k1_dev11 c, k1_dev11_lt c⟩) exitSem ((1 : ℕ) : ℤ)) fun _ =>
  .op (.semSignal (Dev.tc ⟨k1_dev12 c, k1_dev12_lt c⟩) exitSem ((1 : ℕ) : ℤ)) fun _ =>
  .op (.semWait exitSem ((3 : ℕ) : ℤ)) fun _ => .ret ⟨⟩

set_option maxRecDepth 65536 in
/-- The body reads its device's number and then runs that program. -/
theorem body_code : bodyAt1 (F := F) t1_0 = .op .deviceId talkCode := rfl

/-- The whole array's rectangle places every index at itself. -/
theorem wholeRect_emb (x : S2048x1024.Idx) : wholeRect.emb x = x := by
  funext a
  refine Fin.ext ?_
  rw [Rect.emb_apply]
  revert a
  simp [wholeRect, Fin.forall_fin_two]
/-- Copying the input to the output makes the output the input. -/
theorem copy_in (o : Arr F) : (outM.access wholeRect).write (Elt F) o (k1_pay2 ((inM.access wholeRect).read (Elt F) (X c))) Finset.univ = held X 0 c := by
  funext i
  have h : (outM.access wholeRect).emb i = i := wholeRect_emb i
  conv_lhs => rw [← h, View.write_emb_of_mem _ _ (Finset.mem_univ i)]
  unfold k1_pay2
  rw [shapeCast_self]
  exact congrArg (X c) (wholeRect_emb i)

/-- What leg 0 sends of a row. -/
theorem send_val0 (v : Vec F S1024x1024 .f32) (x : S1024x1024.Idx) : (fun v => k1_pay4 (k1_pay3 v)) v x = tr (v x) := by
  simp only [k1_pay4, k1_pay3, shapeCast_self]; rfl
/-- What leg 0 makes of a row kept and a row received. -/
theorem add_val0 (v : Vec F S1024x1024 .f32) (w : Vec F S1024x1024 .bf16) (x : S1024x1024.Idx) : k1_pay5 v w x = FloatOps.addf (v x) (ex (w x)) := by
  simp only [k1_pay5, shapeCast_self]; rfl
/-- What leg 1 sends of a row. -/
theorem send_val1 (v : Vec F S512x1024 .f32) (x : S512x1024.Idx) : (k1_pay6) v x = tr (v x) := by
  simp only [k1_pay6, shapeCast_self]; rfl
/-- What leg 1 makes of a row kept and a row received. -/
theorem add_val1 (v : Vec F S512x1024 .f32) (w : Vec F S512x1024 .bf16) (x : S512x1024.Idx) : k1_pay7 v w x = FloatOps.addf (v x) (ex (w x)) := by
  simp only [k1_pay7, shapeCast_self]; rfl
/-- What leg 2 sends of a row. -/
theorem send_val2 (v : Vec F S256x1024 .f32) (x : S256x1024.Idx) : (k1_pay8) v x = tr (v x) := by
  simp only [k1_pay8, shapeCast_self]; rfl
/-- What leg 2 makes of a row kept and a row received. -/
theorem add_val2 (v : Vec F S256x1024 .f32) (w : Vec F S256x1024 .bf16) (x : S256x1024.Idx) : k1_pay9 v w x = FloatOps.addf (v x) (ex (w x)) := by
  simp only [k1_pay9, shapeCast_self]; rfl
/-- What leg 3 sends of a row. -/
theorem send_val3 (v : Vec F S256x1024 .f32) (x : S256x1024.Idx) : (k1_pay10) v x = tr (v x) := by
  simp only [k1_pay10, shapeCast_self]; rfl
/-- What leg 4 sends of a row. -/
theorem send_val4 (v : Vec F S512x1024 .f32) (x : S512x1024.Idx) : (k1_pay12) v x = tr (v x) := by
  simp only [k1_pay12, shapeCast_self]; rfl
/-- What leg 5 sends of a row. -/
theorem send_val5 (v : Vec F S1024x1024 .f32) (x : S1024x1024.Idx) : (k1_pay14) v x = tr (v x) := by
  simp only [k1_pay14, shapeCast_self]; rfl

set_option maxHeartbeats 4000000 in
/-- The body's run. -/
theorem body_run {W : Waits sig Unit} :
    iprop(recs X K ∗ levAts L lv ∗ opened c ∗ inAt c (X c) ∗ (∃ o, outAt c o) ∗ owes (c : Thread nD τ) (dueBars c 0) W)
      ⊢ wp frame (wpE (defs₀ (F := F)) 𝒱₀ c none) Set.univ (bodyAt1 (F := F) t1_0)
        fun _ => iprop(finished (F := F) c ∗ inAt c (X c) ∗ outAt c (held X 6 c) ∗ ∃ W, owes (c : Thread nD τ) 0 W) := by
  rw [body_code, wp_deviceId]
  show _ ⊢ wp frame _ Set.univ (talkCode c) _
  unfold talkCode
  unfold opened
  rw [bigSep_three, bigSep_six, bigSep_six]
  unfold barHold rcvHold
  iintro ⟨#HI, #Hlev, ⟨Hbat, Heat, #Hre, Hbc, Hec, ⟨⟨Hb0, #Hq0, He0⟩, ⟨Hb1, #Hq1, He1⟩, ⟨Hb2, #Hq2, He2⟩⟩, ⟨L0, L1, L2, L3, L4, L5⟩,
    ⟨⟨R0, #G0⟩, ⟨R1, #G1⟩, ⟨R2, #G2⟩, ⟨R3, #G3⟩, ⟨R4, #G4⟩, ⟨R5, #G5⟩⟩⟩, Hin, Ho, HO⟩
  icases Ho with ⟨%o, Ho⟩
  iapply (wp_sig_bar X K c 0 ⟨k1_dev1 c, k1_dev1_lt c⟩ (Fin.ext (bar_dev c).1)) $$ [HO Hb0 R2 R3]
  · isplitr; · iexact HI
    isplitl [HO]; · iexact HO
    isplitl [Hb0]; · iexact Hb0
    isplitr; · iexact Hq0
    isplitl [R2]; · iexact R2
    isplitl [R3]; · iexact R3
    isplitr; · iexact G2
    isplitr; · iexact G3
    iexact Hre
  iintro HO
  iapply (wp_sig_bar X K c 1 ⟨k1_dev2 c, k1_dev2_lt c⟩ (Fin.ext (bar_dev c).2.1)) $$ [HO Hb1 R1 R4]
  · isplitr; · iexact HI
    isplitl [HO]; · iexact HO
    isplitl [Hb1]; · iexact Hb1
    isplitr; · iexact Hq1
    isplitl [R1]; · iexact R1
    isplitl [R4]; · iexact R4
    isplitr; · iexact G1
    isplitr; · iexact G4
    iexact Hre
  iintro HO
  iapply (wp_sig_bar X K c 2 ⟨k1_dev3 c, k1_dev3_lt c⟩ (Fin.ext (bar_dev c).2.2)) $$ [HO Hb2 R0 R5]
  · isplitr; · iexact HI
    isplitl [HO]; · iexact HO
    isplitl [Hb2]; · iexact Hb2
    isplitr; · iexact Hq2
    isplitl [R0]; · iexact R0
    isplitl [R5]; · iexact R5
    isplitr; · iexact G0
    isplitr; · iexact G5
    iexact Hre
  iintro HO
  iapply (wp_wait_bar X K c) $$ [HO Hbc Hbat]
  · isplitr; · iexact HI
    isplitr; · iexact Hlev
    isplitl [Hbc]; · iexact Hbc
    isplitl [HO]; · iexact HO
    iexact Hbat
  unfold barPay
  iintro ⟨HO, Hbat, ⟨P2, P3, #S2, #S3, #E0⟩, ⟨P1, P4, #S1, #S4, #E1⟩, ⟨P0, P5, #S0, #S5, #E2⟩⟩
  -- the input is copied to the output
  iapply (wp_load_rect 𝒱₀ (c : Thread nD τ) none Set.univ (m := inM) (S := Finset.univ) (Finset.subset_univ _)) $$ [Hin]
  · iexact Hin
  iintro Hin
  iapply (wp_load_rect 𝒱₀ (c : Thread nD τ) none Set.univ (m := outM) (S := Finset.univ) (Finset.subset_univ _)) $$ [Ho]
  · iexact Ho
  iintro Ho
  iapply (wp_store 𝒱₀ (c : Thread nD τ) none Set.univ (m := outM) (S := Finset.univ) (Finset.subset_univ _)) $$ [Ho]
  · iexact Ho
  iintro Ho
  ihave Ho := (Entails.of_eq (congrArg (outAt c) (copy_in X c o))) $$ Ho
  iapply (wp_leg_swap X K c 0 (k1_off1 c) (send_off c).1 ⟨k1_dev4 c, k1_dev4_lt c⟩ (Fin.ext (leg_dev c).1) (fun v => k1_pay4 (k1_pay3 v)) (fun v x => send_val0 v x) (k1_off1_inb c)) $$ [L0 P0 Ho HO]
  · unfold legGrant
    isplitr; · iexact HI
    isplitr; · iexact Hlev
    isplitl [L0]; · iexact L0
    isplitl [P0]
    · isplitl [P0]; · iexact P0
      iexact S0
    isplitl [Ho]; · iexact Ho
    iexact HO
  iintro ⟨A0, B0, C0, D0, Ho, ⟨%W0, HO⟩⟩
  iapply (wp_leg_add X c 0 (by decide) (k1_off2 c) (keep_off c).1 k1_pay5 (fun v w x => add_val0 v w x) (k1_off2_inb c)) $$ [D0 Ho]
  · isplitl [D0]; · iexact D0
    iexact Ho
  iintro ⟨D0, Ho⟩
  iapply (wp_leg_swap X K c 1 (k1_off3 c) (send_off c).2.1 ⟨k1_dev5 c, k1_dev5_lt c⟩ (Fin.ext (leg_dev c).2.1) (k1_pay6) (fun v x => send_val1 v x) (k1_off3_inb c)) $$ [L1 P1 Ho HO]
  · unfold legGrant
    isplitr; · iexact HI
    isplitr; · iexact Hlev
    isplitl [L1]; · iexact L1
    isplitl [P1]
    · isplitl [P1]; · iexact P1
      iexact S1
    isplitl [Ho]; · iexact Ho
    iexact HO
  iintro ⟨A1, B1, C1, D1, Ho, ⟨%W1, HO⟩⟩
  iapply (wp_leg_add X c 1 (by decide) (k1_off4 c) (keep_off c).2.1 k1_pay7 (fun v w x => add_val1 v w x) (k1_off4_inb c)) $$ [D1 Ho]
  · isplitl [D1]; · iexact D1
    iexact Ho
  iintro ⟨D1, Ho⟩
  iapply (wp_leg_swap X K c 2 (k1_off5 c) (send_off c).2.2.1 ⟨k1_dev6 c, k1_dev6_lt c⟩ (Fin.ext (leg_dev c).2.2.1) (k1_pay8) (fun v x => send_val2 v x) (k1_off5_inb c)) $$ [L2 P2 Ho HO]
  · unfold legGrant
    isplitr; · iexact HI
    isplitr; · iexact Hlev
    isplitl [L2]; · iexact L2
    isplitl [P2]
    · isplitl [P2]; · iexact P2
      iexact S2
    isplitl [Ho]; · iexact Ho
    iexact HO
  iintro ⟨A2, B2, C2, D2, Ho, ⟨%W2, HO⟩⟩
  iapply (wp_leg_add X c 2 (by decide) (k1_off6 c) (keep_off c).2.2.1 k1_pay9 (fun v w x => add_val2 v w x) (k1_off6_inb c)) $$ [D2 Ho]
  · isplitl [D2]; · iexact D2
    iexact Ho
  iintro ⟨D2, Ho⟩
  iapply (wp_leg_swap X K c 3 (k1_off7 c) (send_off c).2.2.2.1 ⟨k1_dev7 c, k1_dev7_lt c⟩ (Fin.ext (leg_dev c).2.2.2.1) (k1_pay10) (fun v x => send_val3 v x) (k1_off7_inb c)) $$ [L3 P3 Ho HO]
  · unfold legGrant
    isplitr; · iexact HI
    isplitr; · iexact Hlev
    isplitl [L3]; · iexact L3
    isplitl [P3]
    · isplitl [P3]; · iexact P3
      iexact S3
    isplitl [Ho]; · iexact Ho
    iexact HO
  iintro ⟨A3, B3, C3, D3, Ho, ⟨%W3, HO⟩⟩
  iapply (wp_leg_put X c 3 (by decide) (k1_off8 c) (keep_off c).2.2.2.1 k1_pay11 (fun w x => rfl) (k1_off8_inb c)) $$ [D3 Ho]
  · isplitl [D3]; · iexact D3
    iexact Ho
  iintro ⟨D3, Ho⟩
  iapply (wp_leg_swap X K c 4 (k1_off9 c) (send_off c).2.2.2.2.1 ⟨k1_dev8 c, k1_dev8_lt c⟩ (Fin.ext (leg_dev c).2.2.2.2.1) (k1_pay12) (fun v x => send_val4 v x) (k1_off9_inb c)) $$ [L4 P4 Ho HO]
  · unfold legGrant
    isplitr; · iexact HI
    isplitr; · iexact Hlev
    isplitl [L4]; · iexact L4
    isplitl [P4]
    · isplitl [P4]; · iexact P4
      iexact S4
    isplitl [Ho]; · iexact Ho
    iexact HO
  iintro ⟨A4, B4, C4, D4, Ho, ⟨%W4, HO⟩⟩
  iapply (wp_leg_put X c 4 (by decide) (k1_off10 c) (keep_off c).2.2.2.2.1 k1_pay13 (fun w x => rfl) (k1_off10_inb c)) $$ [D4 Ho]
  · isplitl [D4]; · iexact D4
    iexact Ho
  iintro ⟨D4, Ho⟩
  iapply (wp_leg_swap X K c 5 (k1_off11 c) (send_off c).2.2.2.2.2 ⟨k1_dev9 c, k1_dev9_lt c⟩ (Fin.ext (leg_dev c).2.2.2.2.2) (k1_pay14) (fun v x => send_val5 v x) (k1_off11_inb c)) $$ [L5 P5 Ho HO]
  · unfold legGrant
    isplitr; · iexact HI
    isplitr; · iexact Hlev
    isplitl [L5]; · iexact L5
    isplitl [P5]
    · isplitl [P5]; · iexact P5
      iexact S5
    isplitl [Ho]; · iexact Ho
    iexact HO
  iintro ⟨A5, B5, C5, D5, Ho, ⟨%W5, HO⟩⟩
  iapply (wp_leg_put X c 5 (by decide) (k1_off12 c) (keep_off c).2.2.2.2.2 k1_pay1 (fun w x => rfl) (k1_off12_inb c)) $$ [D5 Ho]
  · isplitl [D5]; · iexact D5
    iexact Ho
  iintro ⟨D5, Ho⟩
  ihave HO := (Entails.of_eq (congrArg (fun O => (owes (c : Thread nD τ) O W5 : sProp 𝕄)) (show dueLegs c ((5 : Fin 6).val + 1) = _ from dueLegs_end c))) $$ HO
  iapply (wp_sig_exit X K c 0 ⟨k1_dev10 c, k1_dev10_lt c⟩ (Fin.ext (exit_dev c).1)) $$ [HO He0]
  · isplitr; · iexact HI
    isplitl [HO]; · iexact HO
    isplitl [He0]; · iexact He0
    iexact E0
  iintro HO
  iapply (wp_sig_exit X K c 1 ⟨k1_dev11 c, k1_dev11_lt c⟩ (Fin.ext (exit_dev c).2.1)) $$ [HO He1]
  · isplitr; · iexact HI
    isplitl [HO]; · iexact HO
    isplitl [He1]; · iexact He1
    iexact E1
  iintro HO
  iapply (wp_sig_exit X K c 2 ⟨k1_dev12 c, k1_dev12_lt c⟩ (Fin.ext (exit_dev c).2.2)) $$ [HO He2]
  · isplitr; · iexact HI
    isplitl [HO]; · iexact HO
    isplitl [He2]; · iexact He2
    iexact E2
  iintro HO
  iapply (wp_wait_exit X K c) $$ [HO Hec Heat]
  · isplitr; · iexact HI
    isplitl [Hec]; · iexact Hec
    isplitl [HO]; · iexact HO
    iexact Heat
  iintro ⟨HO, Heat⟩
  rw [wp_ret]
  imodintro
  unfold finished
  rw [bigSep_six]
  unfold legEnd
  isplitl [Hbat Heat A0 A1 A2 A3 A4 A5 B0 B1 B2 B3 B4 B5 C0 C1 C2 C3 C4 C5 D0 D1 D2 D3 D4 D5]
  · isplitl [Hbat]; · iexact Hbat
    isplitl [Heat]; · iexact Heat
    isplitl [A0 B0 C0 D0]
    · isplitl [A0]; · iexact A0
      isplitl [B0]; · iexact B0
      isplitl [C0]; · iexact C0
      iexact D0
    isplitl [A1 B1 C1 D1]
    · isplitl [A1]; · iexact A1
      isplitl [B1]; · iexact B1
      isplitl [C1]; · iexact C1
      iexact D1
    isplitl [A2 B2 C2 D2]
    · isplitl [A2]; · iexact A2
      isplitl [B2]; · iexact B2
      isplitl [C2]; · iexact C2
      iexact D2
    isplitl [A3 B3 C3 D3]
    · isplitl [A3]; · iexact A3
      isplitl [B3]; · iexact B3
      isplitl [C3]; · iexact C3
      iexact D3
    isplitl [A4 B4 C4 D4]
    · isplitl [A4]; · iexact A4
      isplitl [B4]; · iexact B4
      isplitl [C4]; · iexact C4
      iexact D4
    isplitl [A5]; · iexact A5
    isplitl [B5]; · iexact B5
    isplitl [C5]; · iexact C5
    iexact D5
  isplitl [Hin]; · iexact Hin
  isplitl [Ho]; · iexact Ho
  iexists _; iexact HO

end Cert.KernelIdeal.Halving
-- ==== Proof.Meet.lean ====
/-
  The all-reduce as a region of the program: what its devices carry to it from the launch, how its
  counters and slices are opened before its body and closed after it, and its record.
-/
module

public import proofs.«01_k».proof.Proof.AllReduce
public import proofs.«01_k».proof.Proof.Gen.KernelIdeal.Regions
public import Idealize.ShloMosaic.Lib.Rounds.Family
public import Idealize.ShloMosaic.Harness.Basic

@[expose] public section

noncomputable section

namespace Cert.KernelIdeal.Halving

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The slices of the two buffers -/

/-- Membership in a leg's rows. -/
theorem mem_legRect (s : Fin 6) (i : S3584x1024.Idx) : i ∈ (legRect s).set ↔ at_ s ≤ (i 0).val ∧ (i 0).val < at_ s + rows s := by
  rw [Rect.mem_set_unit, Fin.forall_fin_two]
  have h1 : (i 1).val < 1024 := (i 1).isLt
  constructor
  · exact fun h => h.1
  · exact fun h => ⟨h, Nat.zero_le _, by simpa using h1⟩
/-- Different legs have different rows. -/
theorem leg_disjoint (s t : Fin 6) (h : s ≠ t) : Disjoint (legRect s).set (legRect t).set := by
  rw [Finset.disjoint_left]
  intro i hs ht
  rw [mem_legRect] at hs ht
  have a := legOf_at s ((i 0).val - at_ s) (by omega)
  have b := legOf_at t ((i 0).val - at_ t) (by omega)
  rw [Nat.add_sub_cancel' hs.1] at a
  rw [Nat.add_sub_cancel' ht.1] at b
  exact h (a.symm.trans b)
/-- The legs' rows make up the buffer. -/
theorem leg_cover : (Finset.univ : Finset (Fin 6)).biUnion (fun s => (legRect s).set) = Finset.univ := by
  refine Finset.eq_univ_of_forall fun i => ?_
  have hi : (i 0).val < 3584 := (i 0).isLt
  have key : ∀ n, n < 3584 → at_ (legOf n) ≤ n ∧ n < at_ (legOf n) + rows (legOf n) := by
    intro n hn
    unfold legOf
    split_ifs <;> simp [at_, rows] <;> omega
  exact Finset.mem_biUnion.mpr ⟨legOf (i 0).val, Finset.mem_univ _, (mem_legRect _ _).mpr (key _ hi)⟩

/-- A buffer of 3584 rows on device c, at contents of its own. -/
abbrev bufAny (c : Dev nD) (b : Ref sig .tc) : sProp 𝕄 := iprop(∃ f : Buf (Elt F) ((c : Thread nD τ).loc b), ((c : Thread nD τ).loc b) ↦{fullShare} f)

/-- A leg's rows of the send buffer. -/
theorem snd_set (s : Fin 6) : (sndM.access (legRect s)).set = (legRect s).set := View.set_slice_whole _ _
/-- A leg's rows of the receive buffer. -/
theorem rcv_set (s : Fin 6) : (rcvM.access (legRect s)).set = (legRect s).set := View.set_slice_whole _ _

/-- The send buffer cut into the legs' slices. -/
theorem snd_cut (c : Dev nD) : (bufAny c cc1_scratch0 : sProp 𝕄) ⊢ bigSep Finset.univ fun s : Fin 6 => iprop(∃ f, sPts (F := F) c s f) := by
  iintro ⟨%f, H⟩
  have e : (((c : Thread nD τ).loc cc1_scratch0) ↦{fullShare} f : sProp 𝕄) = bigSep Finset.univ fun s : Fin 6 => sPts (F := F) c s f := by
    have := pointsTo_biUnion (Ix := Unit) (Name := ℕ) (U := UU) (Lvl := ℕ) (ℓ := (c : Thread nD τ).loc cc1_scratch0) (q := fullShare) (f := f) Finset.univ (fun s : Fin 6 => (legRect s).set)
      (fun s _ t _ h => leg_disjoint s t h)
    rw [leg_cover] at this
    rw [this]
    exact bigSep_congr fun s _ => by rw [← snd_set s]
  iapply ((Entails.of_eq e).trans (bigSep_mono (Ψ := fun s : Fin 6 => iprop(∃ f, sPts (F := F) c s f)) fun s _ => exists_intro (Φ := fun f => sPts (F := F) c s f) f))
  iexact H
/-- The receive buffer cut into the legs' slices. -/
theorem rcv_cut (c : Dev nD) : (bufAny c cc1_scratch1 : sProp 𝕄) ⊢ bigSep Finset.univ fun s : Fin 6 => iprop(∃ f, rPts (F := F) c s f) := by
  iintro ⟨%f, H⟩
  have e : (((c : Thread nD τ).loc cc1_scratch1) ↦{fullShare} f : sProp 𝕄) = bigSep Finset.univ fun s : Fin 6 => rPts (F := F) c s f := by
    have := pointsTo_biUnion (Ix := Unit) (Name := ℕ) (U := UU) (Lvl := ℕ) (ℓ := (c : Thread nD τ).loc cc1_scratch1) (q := fullShare) (f := f) Finset.univ (fun s : Fin 6 => (legRect s).set)
      (fun s _ t _ h => leg_disjoint s t h)
    rw [leg_cover] at this
    rw [this]
    exact bigSep_congr fun s _ => by rw [← rcv_set s]
  iapply ((Entails.of_eq e).trans (bigSep_mono (Ψ := fun s : Fin 6 => iprop(∃ f, rPts (F := F) c s f)) fun s _ => exists_intro (Φ := fun f => rPts (F := F) c s f) f))
  iexact H
/-- The legs' slices of the send buffer joined. -/
theorem snd_join (c : Dev nD) : (bigSep Finset.univ fun s : Fin 6 => iprop(∃ f, sPts (F := F) c s f)) ⊢ (bufAny c cc1_scratch0 : sProp 𝕄) := by
  haveI : Nonempty (Buf16 F) := ⟨fun _ => Scalar.ofBits .bf16 0⟩
  iintro H
  ihave H := (bigSep_exists_pi Finset.univ fun (s : Fin 6) f => sPts (F := F) c s f) $$ H
  icases H with ⟨%fs, H⟩
  ihave H := (pointsTo_biUnion_join (Ix := Unit) (Name := ℕ) (U := UU) (Lvl := ℕ) (ℓ := (c : Thread nD τ).loc cc1_scratch0) (q := fullShare) Finset.univ (fun s : Fin 6 => (sndM.access (legRect s)).set) fs (fs 0)
      (fun s _ t _ h => by rw [snd_set, snd_set]; exact leg_disjoint s t h)) $$ H
  icases H with ⟨%g, -, H⟩
  iexists g
  iapply (Entails.of_eq (congrArg (fun I => ((c : Thread nD τ).loc cc1_scratch0 ↦[I]{fullShare} g : sProp 𝕄))
    ((Finset.biUnion_congr rfl fun s _ => snd_set s).trans leg_cover)))
  iexact H
/-- The legs' slices of the receive buffer joined. -/
theorem rcv_join (c : Dev nD) : (bigSep Finset.univ fun s : Fin 6 => iprop(∃ f, rPts (F := F) c s f)) ⊢ (bufAny c cc1_scratch1 : sProp 𝕄) := by
  haveI : Nonempty (Buf16 F) := ⟨fun _ => Scalar.ofBits .bf16 0⟩
  iintro H
  ihave H := (bigSep_exists_pi Finset.univ fun (s : Fin 6) f => rPts (F := F) c s f) $$ H
  icases H with ⟨%fs, H⟩
  ihave H := (pointsTo_biUnion_join (Ix := Unit) (Name := ℕ) (U := UU) (Lvl := ℕ) (ℓ := (c : Thread nD τ).loc cc1_scratch1) (q := fullShare) Finset.univ (fun s : Fin 6 => (rcvM.access (legRect s)).set) fs (fs 0)
      (fun s _ t _ h => by rw [rcv_set, rcv_set]; exact leg_disjoint s t h)) $$ H
  icases H with ⟨%g, -, H⟩
  iexists g
  iapply (Entails.of_eq (congrArg (fun I => ((c : Thread nD τ).loc cc1_scratch1 ↦[I]{fullShare} g : sProp 𝕄))
    ((Finset.biUnion_congr rfl fun s _ => rcv_set s).trans leg_cover)))
  iexact H

/-! ## The counters that the region owns -/

/-- The sites whose counters belong to the region. -/
abbrev Own : Type := Unit ⊕ (Fin 6 ⊕ Fin 6)
/-- Their sites. -/
def own : Own → Site
  | .inl _ => .exit
  | .inr (.inl s) => .snd s
  | .inr (.inr s) => .rcv s
/-- The region's own semaphores are distinct. -/
theorem own_inj : Function.Injective own := by decide
/-- None of them is the barrier's. -/
theorem own_ne_bar (k : Own) : own k ≠ .bar := by revert k; decide
/-- Their counters. -/
def ownSem (k : Own) : SemLoc sig := (own k).sem
/-- The region's own semaphores are scoped to it. -/
theorem ownFacts : Pipeline.OwnSemFacts spec1 ownSem := by decide

/-- Over the region's own sites: the exit, the send sites, the receive sites. -/
theorem bigSep_own (Φ : Own → sProp 𝕄) : bigSep Finset.univ Φ
    = iprop(Φ (.inl ()) ∗ (bigSep Finset.univ fun s : Fin 6 => Φ (.inr (.inl s))) ∗ bigSep Finset.univ fun s : Fin 6 => Φ (.inr (.inr s))) := by
  rw [bigSep_univ_sum, bigSep_univ_sum, Finset.univ_unique, bigSep_singleton]
  rfl

variable (X : Dev nD → Arr F)

/-- What a device carries from the launch to the region. -/
def carried (c : Dev nD) : sProp 𝕄 :=
  iprop(atPos ER (cell c .bar) 0 ∅ 0 ∗ (bigSep Finset.univ fun k : Own => openTok ER (cell c (own k)))
    ∗ (bigSep Finset.univ fun b : Fin 3 => barHold c b)
    ∗ (bigSep Finset.univ fun s : Fin 6 => iprop(dutyTok ER (cell c (.snd s)) 0 0 ∗ dutyTok ER (cell (mate s c) (.rcv s)) 0 0))
    ∗ cred (tallyAt (cell c .bar) () 3) ∗ cred (tallyAt (cell c .exit) () 3) ∗ bigSep Finset.univ fun s : Fin 6 => cred (tallyAt (cell c (.rcv s)) () (size s)))
/-- That, with every cell's invariant. -/
def kept (c : Dev nD) : sProp 𝕄 := iprop((∃ K, recs X K) ∗ carried (F := F) c)

/-- What a device holds for a leg before the region's buffers are cut. -/
def legHold (c : Dev nD) (s : Fin 6) : sProp 𝕄 :=
  iprop((atPos ER (cell c (.snd s)) 0 ∅ 0 ∗ reached ER (cell c (.snd s)) 0) ∗ (atPos ER (cell c (.rcv s)) 0 ∅ 0 ∗ reached ER (cell c (.rcv s)) 0)
    ∗ (dutyTok ER (cell c (.snd s)) 0 0 ∗ dutyTok ER (cell (mate s c) (.rcv s)) 0 0) ∗ cred (tallyAt (cell c (.rcv s)) () (size s)))

/-- What enters the region's invariant. -/
def entered (c : Dev nD) : sProp 𝕄 :=
  iprop((∃ K, recs X K) ∗ levAts L lv ∗ atPos ER (cell c .bar) 0 ∅ 0 ∗ (atPos ER (cell c .exit) 0 ∅ 0 ∗ reached ER (cell c .exit) 0)
    ∗ cred (tallyAt (cell c .bar) () 3) ∗ cred (tallyAt (cell c .exit) () 3)
    ∗ (bigSep Finset.univ fun b : Fin 3 => barHold c b) ∗ bigSep Finset.univ fun s : Fin 6 => legHold c s)

/-- The legs' rows, one by one, are the buffers whole. -/
theorem legs_gather (c : Dev nD) :
    iprop((bigSep Finset.univ fun s : Fin 6 => iprop(atPos ER (cell c (.snd s)) 0 ∅ 0 ∗ reached ER (cell c (.snd s)) 0))
        ∗ (bigSep Finset.univ fun s : Fin 6 => iprop(atPos ER (cell c (.rcv s)) 0 ∅ 0 ∗ reached ER (cell c (.rcv s)) 0))
        ∗ (bigSep Finset.univ fun s : Fin 6 => iprop(dutyTok ER (cell c (.snd s)) 0 0 ∗ dutyTok ER (cell (mate s c) (.rcv s)) 0 0))
        ∗ bigSep Finset.univ fun s : Fin 6 => cred (tallyAt (cell c (.rcv s)) () (size s)))
      ⊢ (bigSep Finset.univ fun s : Fin 6 => legHold (F := F) c s) := by
  rw [← bigSep_sep', ← bigSep_sep', ← bigSep_sep']
  exact BI.Entails.refl _

/-- The invariants of the region's own cells. -/
theorem own_recs (K : GSem nD τ sig → ℕ) (c : Dev nD) :
    recs X K ⊢ bigSep Finset.univ fun k : Own => cellInv ER (sched X) (K (cell c (own k))) (cell c (own k)) :=
  bigSep_intro_persistent fun k _ => recs_at X K c (own k)
/-- The region's own counters opened. -/
theorem open_region (c : Dev nD) : iprop(kept X c ∗ Pipeline.ownSems0 ownSem c ∗ levAts L lv) ⊢ (|={Set.univ}=> entered X c : sProp 𝕄) := by
  unfold kept carried entered
  iintro ⟨⟨⟨%K, #HI⟩, Hb, Ht, HB, HD, Hcb, Hce, Hcr⟩, Hs, #Hlev⟩
  imod (cells_open ER (sched X) Finset.univ (fun k : Own => cell c (own k)) (fun k => K (cell c (own k))) (Es := Set.univ) (fun _ _ => Set.mem_univ _)) $$ [Ht Hs] with H
  · isplitl [Ht]
    · iapply (Entails.of_eq (bigSep_sep' _ _ _).symm)
      isplitr
      · iapply (own_recs X K c); iexact HI
      iexact Ht
    iapply (show (Pipeline.ownSems0 ownSem c : sProp 𝕄) ⊢ bigSep Finset.univ fun k : Own => semVal (cell c (own k)) 0 from BI.Entails.refl _)
    iexact Hs
  ihave H := (Entails.of_eq (bigSep_own _)) $$ H
  icases H with ⟨He, HS, HR⟩
  imodintro
  isplitr; · iexists K; iexact HI
  isplitr; · iexact Hlev
  isplitl [Hb]; · iexact Hb
  isplitl [He]; · iexact He
  isplitl [Hcb]; · iexact Hcb
  isplitl [Hce]; · iexact Hce
  isplitl [HB]; · iexact HB
  iapply (legs_gather c)
  isplitl [HS]; · iexact HS
  isplitl [HR]; · iexact HR
  isplitl [HD]; · iexact HD
  iexact Hcr

/-- What one leg needs at its start. -/
theorem leg_start (c : Dev nD) (s : Fin 6) :
    (iprop(legHold (F := F) c s ∗ (∃ f, sPts (F := F) c s f) ∗ (∃ f, rPts (F := F) c s f)) : sProp 𝕄) ⊢ iprop(legStart (F := F) c s ∗ rcvHold (F := F) c s) := by
  unfold legHold legStart rcvHold
  iintro ⟨⟨⟨A, #B⟩, ⟨C, #D⟩, ⟨E, G⟩, H⟩, S, R⟩
  isplitr [R]
  · isplitl [A]; · iexact A
    isplitl [C]; · iexact C
    isplitl [E]; · iexact E
    isplitl [G]; · iexact G
    isplitl [H]; · iexact H
    isplitl [S]; · iexact S
    iexact B
  isplitl [R]; · iexact R
  iexact D
/-- What the six legs need at their start. -/
theorem legs_start (c : Dev nD) :
    iprop((bigSep Finset.univ fun s : Fin 6 => legHold (F := F) c s) ∗ (bigSep Finset.univ fun s : Fin 6 => iprop(∃ f, sPts (F := F) c s f))
        ∗ bigSep Finset.univ fun s : Fin 6 => iprop(∃ f, rPts (F := F) c s f))
      ⊢ iprop((bigSep Finset.univ fun s : Fin 6 => legStart (F := F) c s) ∗ bigSep Finset.univ fun s : Fin 6 => rcvHold (F := F) c s) := by
  rw [← bigSep_sep', ← bigSep_sep', ← bigSep_sep']
  exact bigSep_mono fun s _ => leg_start c s

/-- What the region holds at its start, opened for the body. -/
theorem opened_intro (c : Dev nD) :
    iprop(entered X c ∗ bufAny c cc1_scratch0 ∗ bufAny c cc1_scratch1) ⊢ (iprop((∃ K, recs X K) ∗ levAts L lv ∗ opened (F := F) c) : sProp 𝕄) := by
  unfold entered opened
  iintro ⟨⟨HK, Hlev, Hb, ⟨He, Hre⟩, Hcb, Hce, HB, HL⟩, HS, HR⟩
  ihave HS := (snd_cut c) $$ HS
  ihave HR := (rcv_cut c) $$ HR
  ihave H := (legs_start c) $$ [HL HS HR]
  · isplitl [HL]; · iexact HL
    isplitl [HS] <;> iassumption
  icases H with ⟨HL, HR⟩
  isplitl [HK]; · iexact HK
  isplitl [Hlev]; · iexact Hlev
  isplitl [Hb]; · iexact Hb
  isplitl [He]; · iexact He
  isplitl [Hre]; · iexact Hre
  isplitl [Hcb]; · iexact Hcb
  isplitl [Hce]; · iexact Hce
  isplitl [HB]; · iexact HB
  isplitl [HL] <;> iassumption

/-- What the six legs leave. -/
theorem legs_end (c : Dev nD) :
    (bigSep Finset.univ fun s : Fin 6 => legEnd (F := F) c s)
      ⊢ iprop((bigSep Finset.univ fun s : Fin 6 => atPos ER (cell c (.snd s)) 1 ∅ 0) ∗ (bigSep Finset.univ fun s : Fin 6 => atPos ER (cell c (.rcv s)) 1 ∅ 0)
        ∗ (bigSep Finset.univ fun s : Fin 6 => iprop(∃ f, sPts (F := F) c s f)) ∗ bigSep Finset.univ fun s : Fin 6 => iprop(∃ f, rPts (F := F) c s f)) := by
  rw [← bigSep_sep', ← bigSep_sep', ← bigSep_sep']
  exact BI.Entails.refl _

/-- After the body every counter is closed, at zero, and the two buffers are whole again. -/
theorem closed_intro (K : GSem nD τ sig → ℕ) (c : Dev nD) :
    iprop(recs X K ∗ finished (F := F) c) ⊢ (|={Set.univ}=> iprop(semVal (cell c .bar) 0 ∗ Pipeline.ownSems0 ownSem c ∗ bufAny c cc1_scratch0 ∗ bufAny c cc1_scratch1) : sProp 𝕄) := by
  unfold finished
  iintro ⟨#HI, Hb, He, HL⟩
  ihave HL := (legs_end c) $$ HL
  icases HL with ⟨HS, HR, HsB, HrB⟩
  imod (Rounds.cell_close ER (sched X) (g := cell c .bar) (Set.mem_univ (K (cell c .bar))) id (R := 1) (duties_later X (cell c .bar))) $$ [Hb] with Hb
  · isplitr; · iapply (recs_at X K c .bar); iexact HI
    iexact Hb
  imod (cells_close ER (sched X) Finset.univ (fun k : Own => cell c (own k)) (fun k => K (cell c (own k))) (Es := Set.univ) (fun _ _ => Set.mem_univ _) (fun _ _ => id) (fun _ => 1)
      (fun k _ => duties_later X (cell c (own k)))) $$ [He HS HR] with H
  · iapply (Entails.of_eq (bigSep_sep' _ _ _).symm)
    isplitr
    · iapply (own_recs X K c); iexact HI
    iapply (Entails.of_eq (bigSep_own _).symm)
    isplitl [He]; · iexact He
    isplitl [HS]; · iexact HS
    iexact HR
  imodintro
  isplitl [Hb]; · iexact Hb
  isplitl [H]
  · iapply (show (bigSep Finset.univ fun k : Own => semVal (cell c (own k)) 0) ⊢ (Pipeline.ownSems0 ownSem c : sProp 𝕄) from BI.Entails.refl _)
    iexact H
  isplitl [HsB]
  · iapply (snd_join c); iexact HsB
  · iapply (rcv_join c); iexact HrB

end Cert.KernelIdeal.Halving
-- ==== Proof.Setup.lean ====
/-
  The launch: every cell's invariant allocated, the barriers' opened, every duty's token dealt to the device that
  performs it, and the credit of what is owed dealt to the device that is owed it.
-/
module

public import proofs.«01_k».proof.Proof.Meet

@[expose] public section

noncomputable section

namespace Cert.KernelIdeal.Halving

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The cells and the tokens -/

/-- The devices' barrier cells, open from the launch. -/
abbrev barCells : Finset (GSem nD τ sig) := Finset.univ.map ⟨fun c : Dev nD => cell c .bar, fun _ _ h => (cell_inj h).1⟩
/-- The region's own cells, opened at its entry. -/
abbrev ownCells : Finset (GSem nD τ sig) :=
  Finset.univ.map ⟨fun p : Dev nD × Own => cell p.1 (own p.2), fun _ _ h => Prod.ext (cell_inj h).1 (own_inj (cell_inj h).2)⟩
/-- The duties at a device's cells: three barrier signals, three exit signals, a duty per leg at its send cell and at its receive cell. -/
abbrev Duty : Type := Fin 3 ⊕ Fin 3 ⊕ Fin 6 ⊕ Fin 6
/-- A duty's site and its index there. -/
def dutyAt : Duty → Site × Fin 3
  | .inl b => (.bar, b)
  | .inr (.inl b) => (.exit, b)
  | .inr (.inr (.inl s)) => (.snd s, 0)
  | .inr (.inr (.inr s)) => (.rcv s, 0)
/-- Signals are distinct. -/
theorem dutyAt_inj : Function.Injective dutyAt := by decide
/-- Every duty of every device. -/
def duties : Finset (GSem nD τ sig × ℕ × Fin 3) :=
  Finset.univ.map ⟨fun p : Dev nD × Duty => (cell p.1 (dutyAt p.2).1, 0, (dutyAt p.2).2), fun p q h => by
    have h1 := cell_inj (congrArg (fun t : GSem nD τ sig × ℕ × Fin 3 => t.1) h)
    exact Prod.ext h1.1 (dutyAt_inj (Prod.ext h1.2 (congrArg (fun t : GSem nD τ sig × ℕ × Fin 3 => t.2.2) h)))⟩

/-- The barrier's semaphores are none of the region's own. -/
theorem cells_disjoint : Disjoint barCells ownCells := by
  rw [Finset.disjoint_left]
  rintro g h₁ h₂
  obtain ⟨c, -, rfl⟩ := Finset.mem_map.mp h₁
  obtain ⟨p, -, h⟩ := Finset.mem_map.mp h₂
  exact own_ne_bar p.2 (cell_inj h).2

/-- Every site's semaphore is dealt. -/
theorem cell_mem (c : Dev nD) (k : Site) : cell c k ∈ barCells ∪ ownCells := by
  cases k with
  | bar => exact Finset.mem_union_left _ (Finset.mem_map.mpr ⟨c, Finset.mem_univ _, rfl⟩)
  | exit => exact Finset.mem_union_right _ (Finset.mem_map.mpr ⟨(c, .inl ()), Finset.mem_univ _, rfl⟩)
  | snd s => exact Finset.mem_union_right _ (Finset.mem_map.mpr ⟨(c, .inr (.inl s)), Finset.mem_univ _, rfl⟩)
  | rcv s => exact Finset.mem_union_right _ (Finset.mem_map.mpr ⟨(c, .inr (.inr s)), Finset.mem_univ _, rfl⟩)

/-- The launch element. -/
def u₀ : UU :=
  (initOf (Pipeline.cells (cfgs) cellOf_inj) (Pipeline.launchToks (cfgs) cellOf_inj), launchOf barCells ownCells duties)
/-- The protocol's part of it, kept at device 0 until the devices' parts are dealt. -/
def G (c : Dev nD) : sProp 𝕄 := if c = 0 then BI.own (ER (launchOf barCells ownCells duties)) else iprop(emp)
/-- The launch's shares make up the whole. -/
theorem G_all : bigSep Finset.univ (G (F := F)) = BI.own (ER (launchOf barCells ownCells duties)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  show iprop(G 0 ∗ emp) = _
  rw [show G (F := F) 0 = BI.own (ER (launchOf barCells ownCells duties)) from if_pos rfl]
  exact BI.equiv_iff.mp sep_emp

/-- The launch pays for the protocol. -/
theorem fund : (ownU u₀ : sProp 𝕄) ⊢ |={Set.univ}=> iprop(BI.own (EP (initOf (Pipeline.cells (cfgs) cellOf_inj) (Pipeline.launchToks (cfgs) cellOf_inj))) ∗ bigSep Finset.univ (G (F := F))) := by
  unfold u₀
  iintro Hu
  ihave H := (ownU_pair _ _) $$ Hu
  icases H with ⟨HP, HX⟩
  imodintro
  isplitl [HP]; · iexact HP
  iapply (Entails.of_eq (G_all (F := F)).symm); iexact HX

/-! ## Dealing to the partners -/

/-- Each device's n-th item handed to the device its n-th exchange pairs it with: the same items in all. -/
theorem hand_on {k : ℕ} (σ : Fin k → Dev nD ≃ Dev nD) (Φ : Dev nD → Fin k → sProp 𝕄) :
    (bigSep Finset.univ fun c : Dev nD => bigSep Finset.univ fun s : Fin k => Φ c s) = bigSep Finset.univ fun c : Dev nD => bigSep Finset.univ fun s : Fin k => Φ (σ s c) s := by
  rw [bigSep_univ_comm, bigSep_univ_comm (fun (c : Dev nD) (s : Fin k) => Φ (σ s c) s)]
  exact bigSep_congr fun s _ => bigSep_univ_equiv (σ s) fun c => Φ c s

/-- The tokens of the duties device c performs. -/
def tokens (c : Dev nD) : sProp 𝕄 :=
  iprop((bigSep Finset.univ fun b : Fin 3 => dutyTok ER (cell (pr b c) .bar) 0 b) ∗ (bigSep Finset.univ fun b : Fin 3 => dutyTok ER (cell (pr b c) .exit) 0 b)
    ∗ (bigSep Finset.univ fun s : Fin 6 => dutyTok ER (cell c (.snd s)) 0 0) ∗ bigSep Finset.univ fun s : Fin 6 => dutyTok ER (cell (mate s c) (.rcv s)) 0 0)

/-- The signals' tokens, dealt by device. -/
theorem deal : bigSep duties (fun x => (dutyTok ER x.1 x.2.1 x.2.2 : sProp 𝕄)) = bigSep Finset.univ fun c : Dev nD => tokens (F := F) c := by
  have e : bigSep duties (fun x => (dutyTok ER x.1 x.2.1 x.2.2 : sProp 𝕄)) = bigSep Finset.univ fun c : Dev nD =>
      iprop((bigSep Finset.univ fun b : Fin 3 => dutyTok ER (cell c .bar) 0 b) ∗ (bigSep Finset.univ fun b : Fin 3 => dutyTok ER (cell c .exit) 0 b)
        ∗ (bigSep Finset.univ fun s : Fin 6 => dutyTok ER (cell c (.snd s)) 0 0) ∗ bigSep Finset.univ fun s : Fin 6 => dutyTok ER (cell c (.rcv s)) 0 0) := by
    unfold duties
    rw [bigSep_map, bigSep_univ_prod]
    refine bigSep_congr fun c _ => ?_
    rw [bigSep_univ_sum, bigSep_univ_sum, bigSep_univ_sum]
    rfl
  rw [e]
  unfold tokens
  rw [bigSep_sep', bigSep_sep', bigSep_sep', bigSep_sep', bigSep_sep', bigSep_sep',
    hand_on swap (fun c b => dutyTok ER (cell c .bar) 0 b), hand_on swap (fun c b => dutyTok ER (cell c .exit) 0 b),
    hand_on (fun s => swap (bit s)) (fun c s => dutyTok ER (cell c (.rcv s)) 0 0)]
  rfl

/-! ## The credit -/

/-- What device c is owed. -/
def owedTo (c : Dev nD) : CellTallies nD τ sig Unit :=
  tallyAt (cell c .bar) () 3 + (tallyAt (cell c .exit) () 3 + ∑ s : Fin 6, tallyAt (cell c (.rcv s)) () (size s))

/-- A sum over devices and their partners, reordered. -/
theorem sum_on {k : ℕ} (σ : Fin k → Dev nD ≃ Dev nD) (f : Dev nD → Fin k → CellTallies nD τ sig Unit) : ∑ c, ∑ s, f (σ s c) s = ∑ c, ∑ s, f c s := by
  rw [Finset.sum_comm, Finset.sum_comm (f := fun c s => f c s)]
  exact Finset.sum_congr rfl fun s _ => Equiv.sum_comp (σ s) fun c => f c s
/-- Three signals of one. -/
theorem three (g : GSem nD τ sig) : ∑ _b : Fin 3, tallyAt g () 1 = (tallyAt g () 3 : CellTallies nD τ sig Unit) := by
  rw [Fin.sum_univ_three, tallyAt_add, tallyAt_add]
/-- What the devices owe is what is owed to them. -/
theorem owed_sum : ∑ c, dueBars c 0 = ∑ c, owedTo c := by
  unfold dueBars dueLegs owedTo
  simp only [tail_zero, Finset.sum_add_distrib]
  have h1 : ∑ c, ∑ b, payBar c b = ∑ c, tallyAt (cell c .bar) () 3 :=
    (sum_on swap fun c _ => tallyAt (cell c .bar) () 1).trans (Finset.sum_congr rfl fun c _ => three _)
  have h2 : ∑ c, ∑ b, payExit c b = ∑ c, tallyAt (cell c .exit) () 3 :=
    (sum_on swap fun c _ => tallyAt (cell c .exit) () 1).trans (Finset.sum_congr rfl fun c _ => three _)
  have h3 : ∑ c, ∑ s, payLeg c s = ∑ c, ∑ s, tallyAt (cell c (.rcv s)) () (size s) :=
    sum_on (fun s => swap (bit s)) fun c s => tallyAt (cell c (.rcv s)) () (size s)
  rw [h1, h2, h3]
  abel
/-- What is owed to a device is at its own semaphores. -/
theorem owedTo_at (c : Dev nD) (g : GSem nD τ sig) (h : owedTo c g ≠ 0) : g.1 = (c.tc : Thread nD τ) := by
  by_contra hg
  refine h ?_
  have hz : ∀ (k : Site) (n : ℕ), (tallyAt (cell c k) () n : CellTallies nD τ sig Unit) g = 0 :=
    fun k n => tallyAt_ne_cell (g := cell c k) (g' := g) (fun e => hg (congrArg Prod.fst e)) () n
  unfold owedTo
  rw [Pi.add_apply, Pi.add_apply, Finset.sum_apply, hz, hz, Finset.sum_eq_zero fun s _ => hz (.rcv s) _, zero_add, zero_add]

/-- Credit over a sum, part by part. -/
theorem cred_over {A : Type} [DecidableEq A] (S : Finset A) (f : A → CellTallies nD τ sig Unit) : (cred (∑ x ∈ S, f x) : sProp 𝕄) = bigSep S fun x => cred (f x) := by
  induction S using Finset.induction_on with
  | empty => rw [Finset.sum_empty, cred_zero, bigSep_empty]; rfl
  | insert x S hx ih => rw [Finset.sum_insert hx, bigSep_insert hx, BI.Entails.antisymm (cred_add _ _).1 (cred_add _ _).2, ih]; rfl
/-- The launch's credit, by device. -/
theorem credit (c : Dev nD) : (Pipeline.launchCred (fun d => dueBars d 0) c : sProp 𝕄)
    = iprop(cred (tallyAt (cell c .bar) () 3) ∗ cred (tallyAt (cell c .exit) () 3) ∗ bigSep Finset.univ fun s : Fin 6 => cred (tallyAt (cell c (.rcv s)) () (size s))) := by
  rw [Pipeline.launchCred_of_sum _ owedTo owed_sum owedTo_at c]
  unfold owedTo
  rw [BI.Entails.antisymm (cred_add _ _).1 (cred_add _ _).2, BI.Entails.antisymm (cred_add _ _).1 (cred_add _ _).2, cred_over]

/-! ## The start -/

/-- The unscoped semaphore is the barrier's. -/
theorem unscoped_bar (c : Dev nD) : (unscopedSems0 c : sProp 𝕄) = semVal (cell c .bar) 0 := by
  unfold unscopedSems0
  rw [show (Finset.univ.filter fun sm : SemLoc sig => ¬ sm.isScoped .tc) = {Site.bar.sem} from by decide, BI.bigSep_singleton]

variable (X : Dev nD → Arr F)

/-- What a device carries beside the buffers up to the all-reduce. -/
def riding (c : Dev nD) : sProp 𝕄 := iprop(kept X c ∗ (∃ r, prngReg c r) ∗ ∃ W, owes (c : Thread nD τ) (dueBars c 0) W)

/-- The records every device may consult. -/
def records (K : GSem nD τ sig → ℕ) : sProp 𝕄 :=
  iprop((bigSep (barCells ∪ ownCells) fun g => cellInv ER (sched X) (K g) g) ∗ bigSep barCells fun g => reached ER g 0)
instance records_persistent (K : GSem nD τ sig → ℕ) : BI.Persistent (records X K) := by unfold records; infer_instance

/-- The invariants of all the semaphores. -/
theorem recs_of (K : GSem nD τ sig → ℕ) : (bigSep (barCells ∪ ownCells) fun g => (cellInv ER (sched X) (K g) g : sProp 𝕄)) ⊢ recs X K :=
  bigSep_intro_persistent fun p _ => bigSep_elim (cell_mem p.1 p.2)
/-- Each barrier's first round is reached. -/
theorem reached_of (c : Dev nD) : (bigSep barCells fun g => (reached ER g 0 : sProp 𝕄)) ⊢ reached ER (cell c .bar) 0 :=
  bigSep_elim (Finset.mem_map.mpr ⟨c, Finset.mem_univ _, rfl⟩)

/-- What is device c's alone. -/
def share (c : Dev nD) : sProp 𝕄 :=
  iprop(atPos ER (cell c .bar) 0 ∅ 0 ∗ (bigSep Finset.univ fun k : Own => openTok ER (cell c (own k))) ∗ tokens c)
/-- What the launch gives device c itself. -/
def given (ρ : Dev nD → PrngReg) (c : Dev nD) : sProp 𝕄 :=
  iprop(owes (c : Thread nD τ) (dueBars c 0) ∅ ∗ Pipeline.launchCred (fun d => dueBars d 0) c ∗ prngReg c (ρ c))

/-- What a device holds at the start. -/
theorem holds_intro (c : Dev nD) :
    iprop((bigSep barCells fun g => (reached ER g 0 : sProp 𝕄)) ∗ (bigSep Finset.univ fun b : Fin 3 => dutyTok ER (cell (pr b c) .bar) 0 b)
        ∗ bigSep Finset.univ fun b : Fin 3 => dutyTok ER (cell (pr b c) .exit) 0 b)
      ⊢ (bigSep Finset.univ fun b : Fin 3 => barHold (F := F) c b) := by
  rw [← bigSep_sep']
  refine bigSep_with_persistent (R := bigSep barCells fun g => (reached ER g 0 : sProp 𝕄))
    (Φ := fun b : Fin 3 => iprop(dutyTok ER (cell (pr b c) .bar) 0 b ∗ dutyTok ER (cell (pr b c) .exit) 0 b)) fun b _ => ?_
  unfold barHold
  iintro ⟨#HR, H1, H2⟩
  isplitl [H1]; · iexact H1
  isplitr; · iapply (reached_of (pr b c)); iexact HR
  iexact H2

/-- What rides through the attention. -/
theorem riding_intro (K : GSem nD τ sig → ℕ) (ρ : Dev nD → PrngReg) (c : Dev nD) : iprop(records X K ∗ (share c ∗ given ρ c)) ⊢ riding X c := by
  unfold records share given tokens riding kept carried
  rw [credit]
  iintro ⟨⟨#HI, #HR⟩, ⟨Hat, Hop, HB, HE, HS, HV⟩, HO, ⟨Hcb, Hce, Hcr⟩, Hp⟩
  isplitr [HO Hp]
  · isplitr
    · iexists K; iapply (recs_of X K); iexact HI
    isplitl [Hat]; · iexact Hat
    isplitl [Hop]; · iexact Hop
    isplitl [HB HE]
    · iapply (holds_intro c)
      isplitr; · iexact HR
      isplitl [HB] <;> iassumption
    isplitl [HS HV]
    · iapply (Entails.of_eq (bigSep_sep' _ _ _).symm)
      isplitl [HS] <;> iassumption
    isplitl [Hcb]; · iexact Hcb
    isplitl [Hce]; · iexact Hce
    iexact Hcr
  isplitl [Hp]; · iexists (ρ c); iexact Hp
  iexists ∅; iexact HO

/-- From the launch's holdings every device gets what it carries. -/
theorem start (ρ : Dev nD → PrngReg) :
    iprop((bigSep Finset.univ fun c : Dev nD => iprop(unscopedSems0 c ∗ owes (c : Thread nD τ) (dueBars c 0) ∅ ∗ Pipeline.launchCred (fun d => dueBars d 0) c ∗ prngReg c (ρ c) ∗ G (F := F) c)) ∗ levAts L lv)
      ⊢ (|={Set.univ}=> bigSep Finset.univ (riding X) : sProp 𝕄) := by
  have hcore (c : Dev nD) : iprop(unscopedSems0 c ∗ owes (c : Thread nD τ) (dueBars c 0) ∅ ∗ Pipeline.launchCred (fun d => dueBars d 0) c ∗ prngReg c (ρ c) ∗ G (F := F) c)
      ⊢ (iprop(given ρ c ∗ (semVal (cell c .bar) 0 ∗ G c)) : sProp 𝕄) := by
    rw [unscoped_bar]
    unfold given
    iintro ⟨Hs, HO, Hc, Hp, HG⟩
    isplitl [HO Hc Hp]
    · isplitl [HO]; · iexact HO
      isplitl [Hc] <;> iassumption
    isplitl [Hs] <;> iassumption
  have hv : bigSep Finset.univ (fun c : Dev nD => (semVal (cell c .bar) 0 : sProp 𝕄)) ⊢ bigSep barCells (fun g => (semVal g 0 : sProp 𝕄)) :=
    Entails.of_eq (by rw [bigSep_map]; rfl)
  have hat : bigSep barCells (fun g => (atPos ER g 0 ∅ 0 : sProp 𝕄)) ⊢ bigSep Finset.univ (fun c : Dev nD => (atPos ER (cell c .bar) 0 ∅ 0 : sProp 𝕄)) :=
    Entails.of_eq (by rw [bigSep_map]; rfl)
  have hopen : bigSep ownCells (fun g => (openTok ER g : sProp 𝕄)) ⊢ bigSep Finset.univ (fun c : Dev nD => bigSep Finset.univ fun k : Own => openTok ER (cell c (own k))) :=
    Entails.of_eq (by rw [bigSep_map, bigSep_univ_prod]; rfl)
  iintro ⟨H, -⟩
  ihave H := (show (bigSep Finset.univ fun c : Dev nD => iprop(unscopedSems0 c ∗ owes (c : Thread nD τ) (dueBars c 0) ∅ ∗ Pipeline.launchCred (fun d => dueBars d 0) c ∗ prngReg c (ρ c) ∗ G (F := F) c))
      ⊢ (bigSep Finset.univ fun c : Dev nD => iprop(given ρ c ∗ (semVal (cell c .bar) 0 ∗ G c)) : sProp 𝕄) from bigSep_mono fun c _ => hcore c) $$ H
  ihave H := (Entails.of_eq (bigSep_sep' _ _ _)) $$ H
  icases H with ⟨HB, H⟩
  ihave H := (Entails.of_eq (bigSep_sep' _ _ _)) $$ H
  icases H with ⟨Hv, HG⟩
  ihave Hu := (Entails.of_eq (G_all (F := F))) $$ HG
  imod (Rounds.fund_launch ER (sched X) cells_disjoint (fun g _ h => h) duties) $$ [Hv Hu] with ⟨%K, -, #Hinv, #Hr, Hat, Hopen, Htok⟩
  · isplitl [Hv]
    · iapply hv $$ Hv
    · iexact Hu
  imodintro
  iapply (bigSep_with_persistent (R := records X K) (Φ := fun c => iprop(share c ∗ given ρ c)) fun c _ => riding_intro X K ρ c)
  isplitr
  · unfold records
    isplitr; · iexact Hinv
    iexact Hr
  iapply (Entails.of_eq (bigSep_sep' _ _ _).symm)
  isplitr [HB]
  · unfold share
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (deal (F := F))) $$ Htok
  · iexact HB

end Cert.KernelIdeal.Halving
-- ==== Proof.Region1.lean ====
/-
  The all-reduce's region record: its pipeline data, its body's obligation, its entry and its exit.
-/
module

public import proofs.«01_k».proof.Proof.Setup
public import Idealize.ShloMosaic.Lib.Pipeline.RegionTalk

@[expose] public section

noncomputable section

namespace Cert.KernelIdeal.Halving

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

/-! ## The scoped buffers that the region's pipeline does not stage -/

/-- The other region's staging buffers, which this one leaves alone. -/
def others (c : Dev nD) : sProp 𝕄 := iprop(bufAny c cc0_stg0_0 ∗ bufAny c cc0_stg0_1 ∗ bufAny c cc0_stg1_0 ∗ bufAny c cc0_stg1_1 ∗ bufAny c cc0_stg2_0 ∗ bufAny c cc0_stg2_1 ∗ bufAny c cc0_stg3_0 ∗ bufAny c cc0_stg3_1 ∗ bufAny c cc0_stg4_0 ∗ bufAny c cc0_stg4_1 ∗ bufAny c cc0_stg5_0 ∗ bufAny c cc0_stg5_1)

/-- The scoped buffers are the two exchange buffers and the others. -/
theorem rest_cut (c : Dev nD) : (Pipeline.scopedRest spec1 c : sProp 𝕄) ⊢ iprop(bufAny c cc1_scratch0 ∗ bufAny c cc1_scratch1 ∗ others c) := by
  rw [scopedRest1_eq]
  unfold others
  iintro ⟨H0, H1, H2, H3, H4, H5, H6, H7, H8, H9, H10, H11, Hs, Hr⟩
  isplitl [Hs]; · iexact Hs
  isplitl [Hr]; · iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
/-- The scoped buffers put together again. -/
theorem rest_join (c : Dev nD) : iprop(bufAny c cc1_scratch0 ∗ bufAny c cc1_scratch1 ∗ others c) ⊢ (Pipeline.scopedRest spec1 c : sProp 𝕄) := by
  rw [scopedRest1_eq]
  unfold others
  iintro ⟨Hs, Hr, H0, H1, H2, H3, H4, H5, H6, H7, H8, H9, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hs]; · iexact Hs
  iexact Hr

/-! ## The body, closed -/

section Run

variable (X : Dev nD → Arr F) (c : Dev nD)

/-- The body from the opened counters and whole buffers: every counter ends closed at zero, the buffers whole, the output the held array after six legs. -/
theorem talk_run :
    iprop(entered X c ∗ Pipeline.scopedRest spec1 c ∗ inAt c (X c) ∗ (∃ o, outAt c o) ∗ ∃ W, owes (c : Thread nD τ) (dueBars c 0) W)
      ⊢ (wp frame (wpE (defs₀ (F := F)) 𝒱₀ c none) Set.univ (bodyAt1 (F := F) t1_0) fun _ =>
        iprop(semVal (cell c .bar) 0 ∗ Pipeline.ownSems0 ownSem c ∗ Pipeline.scopedRest spec1 c ∗ inAt c (X c) ∗ outAt c (held X 6 c) ∗ ∃ W, owes (c : Thread nD τ) 0 W) : sProp 𝕄) := by
  iintro ⟨He, Hrest, Hin, Hout, ⟨%W, HO⟩⟩
  ihave Hrest := (rest_cut c) $$ Hrest
  icases Hrest with ⟨Hs, Hr, Hot⟩
  ihave H := (opened_intro X c) $$ [He Hs Hr]
  · isplitl [He]; · iexact He
    isplitl [Hs] <;> iassumption
  icases H with ⟨⟨%K, #HI⟩, #Hlev, Hop⟩
  iapply (wp_fupd frame (wpE (defs₀ (F := F)) 𝒱₀ c none) Set.univ (bodyAt1 (F := F) t1_0) _)
  iapply (wp_wand frame (wpE (defs₀ (F := F)) 𝒱₀ c none) Set.univ) $$ [Hop Hin Hout HO]
  · iapply (body_run X K c (W := W))
    isplitr; · iexact HI
    isplitr; · iexact Hlev
    isplitl [Hop]; · iexact Hop
    isplitl [Hin]; · iexact Hin
    isplitl [Hout]; · iexact Hout
    iexact HO
  iintro %_ ⟨Hf, Hin, Hout, HO⟩
  imod (closed_intro X K c) $$ [Hf] with ⟨Hb, Ho, Hs, Hr⟩
  · isplitr; · iexact HI
    iexact Hf
  imodintro
  isplitl [Hb]; · iexact Hb
  isplitl [Ho]; · iexact Ho
  isplitl [Hs Hr Hot]
  · iapply (rest_join c)
    isplitl [Hs]; · iexact Hs
    isplitl [Hr] <;> iassumption
  isplitl [Hin]; · iexact Hin
  isplitl [Hout]; · iexact Hout
  iexact HO

end Run

/-! ## The region's data -/

variable (V : Dev nD → Valuation τ sig (Elt F))

/-- What each device brings: its contents of the first region's result. -/
abbrev brought : Dev nD → Arr F := fun c => V c main_v20

/-- The region's pipeline data: it owes its signals and transfers before its one point and nothing after it. -/
def dat1 (c : Dev nD) : Dat τ (Elt F) Unit ℕ UU ℕ cfg1 c where
  A := fun
    | 0 => V c main_v20
    | 1 => V c main_v21
  after := fun
    | 0 => fun _ => brought V c
    | 1 => fun _ => held (brought V) 6 c
  Φ t := if t.val = 0 then iprop(entered (brought V) c ∗ Pipeline.scopedRest spec1 c ∗ ∃ r, prngReg c r)
    else iprop(semVal (cell c .bar) 0 ∗ Pipeline.ownSems0 ownSem c ∗ Pipeline.scopedRest spec1 c ∗ ∃ r, prngReg c r)
  q _ := fullShare
  owed t := if t.val = 0 then dueBars c 0 else 0

/-- What is owed, as the region's record spells it. -/
theorem owesAt_of {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) :
    (iprop(∃ W, owes (c : Thread nD τ) O W) : sProp 𝕄) ⊢ dat.owesAt () t := by
  unfold Dat.owesAt Pipeline.owesWithin Dat.bound
  rw [h, hr]
  iintro ⟨%W, HO⟩
  iexists W
  isplitr; · ipureintro; exact fun _ _ => Or.inl trivial
  iexact HO
/-- What is owed, out of the region's record. -/
theorem of_owesAt {cfg : Pipeline.Cfg sig Λ₀} {c : Dev nD} (dat : Dat τ (Elt F) Unit ℕ UU ℕ cfg c) (t : Fin (cfg.N + 1))
    (O : CellTallies nD τ sig Unit) (h : dat.owed t = O) :
    dat.owesAt () t ⊢ (iprop(∃ W, owes (c : Thread nD τ) O W) : sProp 𝕄) := by
  unfold Dat.owesAt Pipeline.owesWithin
  rw [h]
  iintro ⟨%W, -, HO⟩
  iexists W
  iexact HO

/-- The one block of either window is its whole array. -/
theorem block_emb0 (i : S2048x1024.Idx) : ((win1 0).rect t1_0).emb i = i := by
  funext a
  apply Fin.ext
  rw [Rect.emb_apply]
  fin_cases a <;> exact (Nat.zero_add _).trans (Nat.one_mul _)
@[inherit_doc block_emb0] theorem block_emb1 (i : S2048x1024.Idx) : ((win1 1).rect t1_0).emb i = i := by
  funext a
  apply Fin.ext
  rw [Rect.emb_apply]
  fin_cases a <;> exact (Nat.zero_add _).trans (Nat.one_mul _)
/-- The input's buffer holds the device's array. -/
theorem before1_0 (c : Dev nD) (d) : (dat1 V c).before 0 t1_0 d = brought V c := by
  unfold Dat.before
  rw [if_pos (fetch1_0 t1_0)]
  funext i
  show V c main_v20 _ = V c main_v20 i
  congr 1
  exact block_emb0 i
/-- The region leaves the array after the sixth leg. -/
theorem left1_1 (c : Dev nD) : (dat1 V c).arrAt 1 cfg1.N = held (brought V) 6 c := by
  rw [show cfg1.N = 1 from N_1]
  funext i
  show (if h : 0 < cfg1.N then if (cfg1.win 1).flush ⟨0, h⟩ then ((cfg1.win 1).blk ⟨0, h⟩).view.write (Elt F) (V c main_v21) ((dat1 V c).flushed 1 ⟨0, h⟩) Finset.univ
    else V c main_v21 else V c main_v21) i = _
  rw [dif_pos (show 0 < cfg1.N by rw [show cfg1.N = 1 from N_1]; decide), if_pos (flush1_1 _)]
  have h : ((cfg1.win 1).blk t1_0).view.emb i = i := block_emb1 i
  refine (congrArg (((cfg1.win 1).blk t1_0).view.write (Elt F) (V c main_v21) ((dat1 V c).flushed 1 t1_0) Finset.univ) h.symm).trans ?_
  rw [View.write_emb_of_mem _ _ (Finset.mem_univ i)]
  rfl

/-- The body's obligation. -/
theorem body1 (c : Dev nD) : BodyObligation (dat1 V c) (defs₀ (F := F)) 𝒱₀ () Set.univ := fun t => by
  obtain rfl := fin_N1 t
  rw [bigSep_W1, bigSep_W1]
  have e0 : (dat1 V c).Φ t1_0.castSucc = iprop(entered (brought V) c ∗ Pipeline.scopedRest spec1 c ∗ ∃ r, prngReg c r) := rfl
  have e1 : (dat1 V c).Φ t1_0.succ = iprop(semVal (cell c .bar) 0 ∗ Pipeline.ownSems0 ownSem c ∗ Pipeline.scopedRest spec1 c ∗ ∃ r, prngReg c r) := rfl
  rw [e0, e1]
  iintro ⟨⟨He, Hrest, Hp⟩, HO, ⟨%d0, H0⟩, ⟨%d1, H1⟩⟩
  ihave HO := (of_owesAt (dat1 V c) _ (dueBars c 0) rfl) $$ HO
  ihave H0 := (show (owns (c : Thread nD τ) ((cfg1.win 0).stage (cfg1.slots t1_0 0)) fullShare ((dat1 V c).before 0 t1_0 d0) : sProp 𝕄) ⊢ inAt c (brought V c) from
    Entails.of_eq (by rw [before1_0]; exact owns_whole _ _ _ _)) $$ H0
  ihave H1 := (show (owns (c : Thread nD τ) ((cfg1.win 1).stage (cfg1.slots t1_0 1)) fullShare ((dat1 V c).before 1 t1_0 d1) : sProp 𝕄) ⊢ outAt c ((dat1 V c).before 1 t1_0 d1) from
    Entails.of_eq (owns_whole _ _ _ _)) $$ H1
  iapply (wp_wand frame (wpE (defs₀ (F := F)) 𝒱₀ c none) Set.univ) $$ [He Hrest H0 H1 HO]
  · iapply (talk_run (brought V) c)
    isplitl [He]; · iexact He
    isplitl [Hrest]; · iexact Hrest
    isplitl [H0]; · iexact H0
    isplitl [H1]; · iexists _; iexact H1
    iexact HO
  iintro %_ ⟨Hb, Ho, Hrest, H0, H1, HO⟩
  isplitl [Hb Ho Hrest Hp]
  · isplitl [Hb]; · iexact Hb
    isplitl [Ho]; · iexact Ho
    isplitl [Hrest] <;> iassumption
  isplitl [HO]
  · iapply (owesAt_of (dat1 V c) t1_0.succ 0 rfl rfl); iexact HO
  isplitl [H0]
  · iapply (Entails.of_eq (owns_whole (c : Thread nD τ) cc1_stg0_0 fullShare (brought V c)).symm); iexact H0
  · iapply (Entails.of_eq (owns_whole (c : Thread nD τ) cc1_stg1_0 fullShare (held (brought V) 6 c)).symm); iexact H1

/-! ## The record -/

variable (D0 : (c : Dev nD) → Dat τ (Elt F) Unit ℕ UU ℕ cfg0 c)

/-- Both regions' data, the first's given. -/
def pdats : (p : Fin 2) → (c : Dev nD) → Dat τ (Elt F) Unit ℕ UU ℕ (cfgs p) c
  | 0 => D0
  | 1 => dat1 V

/-- The buffers after the region. -/
abbrev after1 (c : Dev nD) : Valuation τ sig (Elt F) := Function.update (V c) main_v21 (held (brought V) 6 c)

/-- The input is kept. -/
theorem after1_in (c : Dev nD) : after1 V c main_v20 = V c main_v20 :=
  Function.update_of_ne (by decide : (Proc.devRef (τ := τ) .tc main_v20) ≠ Proc.devRef .tc main_v21) _ _
/-- The result is the array after the sixth leg. -/
theorem after1_out (c : Dev nD) : after1 V c main_v21 = held (brought V) 6 c := Function.update_self _ _ _
/-- The buffers the region does not window. -/
abbrev Sr : Finset (DevRef τ sig) := Pipeline.ucRefs τ sig \ Pipeline.arrRefs (τ := τ) spec1

/-- The result is among the windows' arrays. -/
theorem out_ne : (Proc.devRef (τ := τ) .tc main_v21) ∉ Sr := by decide

/-- What is owed at the start has a level above zero. -/
theorem pos_cell {c : Dev nD} {g : GSem nD τ sig} {u : Unit} (h : 0 < dueBars c 0 g u) : u ∈ L g ∧ 0 < lv g u := by
  obtain ⟨d, k, rfl, hp⟩ := dueBars_pos h
  exact ⟨by rw [L_tc]; exact Finset.mem_singleton_self _, hp⟩

/-- Semaphores outside the protocol have level zero. -/
theorem lv_none (g : GSem nD τ sig) (h : siteOf g.2 = none) : lv g () = 0 := by unfold lv; rw [h]
/-- The staging semaphores are none of the protocol's. -/
theorem staged1 : ∀ (w : Fin 2) (s : Fin (spec1 w).nbuf), siteOf (.dma ((spec1 w).sem s)) = none := by decide

/-- The staging waits lie below what is owed. -/
theorem cut1 : Pipeline.LevelCutOwed (pcfgs (F := F)) adm (pdats V D0) () L lv 1 (fun _ => 0) where
  hι c w s := by rw [L_tc]; exact Finset.mem_singleton_self _
  hιb c w s := le_of_eq (lv_none _ (staged1 w s))
  hD c t g i h := by
    have e : (pdats V D0 1 c).owed t = if t.val = 0 then dueBars c 0 else 0 := rfl
    rw [e] at h
    split at h
    · exact pos_cell h
    · exact absurd h (Nat.lt_irrefl 0)

/-- The region's launch facts. -/
theorem kit1 : Pipeline.PLaunchFacts (nD := nD) (τ := τ) (pcfgs (F := F)) 1 := launch1.toP

set_option backward.isDefEq.respectTransparency.types false in
/-- The all-reduce's record: entered with what the launch gave, left with the barrier's counter at zero. -/
def reg1 : Pipeline.RegionSeg (pcfgs (F := F)) adm (pdats V D0) () defs₀ 𝒱₀ L lv 1 :=
  Pipeline.RegionSeg.ofTalk (pcfgs (F := F)) adm (pdats V D0) () defs₀ 𝒱₀ L lv 1 ownSem ownFacts
    ∅ Sr (Finset.empty_subset _) kit1 rfl (fun c => (body1 V c).loose)
    (fun _ => 0) (fun c => dueBars c 0) (fun c => (zero_add _).symm) (fun c => rfl) (fun _ => rfl) (fun _ w => by fin_cases w <;> rfl)
    V (after1 V) (fun c b hb => by
      rw [Finset.sdiff_empty] at hb
      exact Function.update_of_ne (fun e => out_ne (by rw [← e]; exact hb)) _ _)
    (fun c => kept (brought V) c) (fun c => semVal (cell c .bar) 0) (fun c => entered (brought V) c) (fun c => semVal (cell c .bar) 0)
    (open_region (brought V))
    (fun c => by
      show _ ⊢ iprop(entered (brought V) c ∗ Pipeline.scopedRest spec1 c ∗ ∃ r, prngReg c r)
      iintro ⟨Hr, Hp, -, He⟩
      isplitl [He]; · iexact He
      isplitl [Hr]; · iexact Hr
      iexact Hp)
    (fun c => by
      show iprop(semVal (cell c .bar) 0 ∗ Pipeline.ownSems0 ownSem c ∗ Pipeline.scopedRest spec1 c ∗ ∃ r, prngReg c r) ⊢ _
      iintro ⟨Hb, Ho, Hr, Hp⟩
      isplitl [Hr]; · iexact Hr
      isplitl [Hp]; · iexact Hp
      isplitr; · unfold StableHlo.held; rw [bigSep_empty]; iempintro
      isplitl [Ho] <;> iassumption)
    (fun c => by iintro H; imodintro; iexact H)
    (fun _ => 0) (cut1 V D0) (fun _ => iprop(emp))
    (fun c w => by fin_cases w <;> rfl)
    (fun c w => by
      fin_cases w
      · exact ((dat1 V c).arrAt_in 0 rfl _).trans (after1_in V c).symm
      · exact (left1_1 V c).trans (after1_out V c).symm)

/-- The windows' arrays are unscoped. -/
theorem arr1_sub : Pipeline.arrRefs (τ := τ) spec1 ⊆ Pipeline.ucRefs τ sig := by decide

/-- It is entered from the unscoped buffers and what rides beside them. -/
theorem reg1_pre (c : Dev nD) : iprop(StableHlo.held (c : Thread nD τ) (Pipeline.ucRefs τ sig) (V c) ∗ riding (brought V) c) ⊢ (reg1 V D0).pre c := by
  show _ ⊢ iprop(StableHlo.held (c.tc : Thread nD τ) (Pipeline.arrRefs (τ := τ) spec1) (V c) ∗ (∃ r, prngReg c r)
    ∗ (StableHlo.held (c.tc : Thread nD τ) Sr (V c) ∗ emp) ∗ kept (brought V) c ∗ ∃ Wd, owes (c : Thread nD τ) (0 + dueBars c 0) Wd)
  rw [StableHlo.held_sub_split (c.tc : Thread nD τ) arr1_sub (V c), zero_add]
  unfold riding
  iintro ⟨⟨Ha, Hs⟩, HK, Hp, HO⟩
  isplitl [Ha]; · iexact Ha
  isplitl [Hp]; · iexact Hp
  isplitl [Hs]
  · isplitl [Hs]; · iexact Hs
    iempintro
  isplitl [HK]; · iexact HK
  iexact HO

/-- What rides beside the buffers after the all-reduce: the barrier's counter at zero, and nothing owed. -/
def closing (c : Dev nD) : sProp 𝕄 := iprop(semVal (cell c .bar) 0 ∗ ∃ W, owes (c : Thread nD τ) (0 : CellTallies nD τ sig Unit) W)

/-- What the region leaves. -/
theorem reg1_post (c : Dev nD) : (reg1 V D0).post c ⊢ iprop(StableHlo.held (c : Thread nD τ) (Pipeline.ucRefs τ sig) (after1 V c) ∗ closing c) := by
  show iprop(StableHlo.held (c.tc : Thread nD τ) (Pipeline.arrRefs (τ := τ) spec1) (after1 V c) ∗ (∃ r, prngReg c r)
    ∗ (StableHlo.held (c.tc : Thread nD τ) Sr (after1 V c) ∗ emp) ∗ semVal (cell c .bar) 0 ∗ ∃ Wd, owes (c : Thread nD τ) 0 Wd) ⊢ _
  rw [StableHlo.held_sub_split (c.tc : Thread nD τ) arr1_sub (after1 V c)]
  unfold closing
  iintro ⟨Ha, -, ⟨Hs, -⟩, Hb, HO⟩
  isplitl [Ha Hs]
  · isplitl [Ha] <;> iassumption
  isplitl [Hb] <;> iassumption

end Cert.KernelIdeal.Halving
-- ==== Proof.Region0.lean ====
/-
  The attention's region record: what its six windows hold point by point, its body's obligation, its entry and exit.
-/
module

public import proofs.«01_k».proof.Proof.Attend
public import proofs.«01_k».proof.Proof.Region1
public import Idealize.ShloMosaic.Lib.Pipeline.RegionArraysS

@[expose] public section

noncomputable section

namespace Cert.KernelIdeal.Attend

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.KernelIdeal.Halving

variable {F : FTy → Type} [FloatOps F] [Named F]

local notation "𝕄" => MT nD τ sig Unit (Elt F) ℕ UU ℕ

/-! ## What the windows hold -/

variable (V : Dev nD → Valuation τ sig (Elt F))

/-- The blocks the five inputs are read through at a grid point. -/
def xAt (c : Dev nD) (t : Fin cfg0.N) : Vec F S256x1024 .bf16 := ((cfg0.win 0).blk t).view.read (Elt F) (V c main_v5)
@[inherit_doc xAt] def wqAt (c : Dev nD) (t : Fin cfg0.N) : Vec F S1024x128 .bf16 := ((cfg0.win 1).blk t).view.read (Elt F) (V c main_v10)
@[inherit_doc xAt] def kAt (c : Dev nD) (t : Fin cfg0.N) : Vec F S1x2048x128 .bf16 := ((cfg0.win 2).blk t).view.read (Elt F) (V c main_v17)
@[inherit_doc xAt] def vAt (c : Dev nD) (t : Fin cfg0.N) : Vec F S1x2048x128 .bf16 := ((cfg0.win 3).blk t).view.read (Elt F) (V c main_v19)
@[inherit_doc xAt] def woAt (c : Dev nD) (t : Fin cfg0.N) : Vec F S128x1024 .bf16 := ((cfg0.win 4).blk t).view.read (Elt F) (V c main_v15)

/-- The body at a point, on that point's blocks. -/
def stepAt (c : Dev nD) (t : Fin cfg0.N) (o : Vec F S256x1024 .f32) : Vec F S256x1024 .f32 :=
  step (grid0.coords t) (xAt V c t) (wqAt V c t) (kAt V c t) (vAt V c t) (woAt V c t) o

/-- The result's staging buffer after a point: the body over what the point before left. -/
def accAt (c : Dev nD) : (n : ℕ) → n < cfg0.N → Vec F S256x1024 .f32
  | 0, h => stepAt V c ⟨0, h⟩ k0_pay1
  | n + 1, h => stepAt V c ⟨n + 1, h⟩ (accAt c n (Nat.lt_of_succ_lt h))

/-- The first branch runs exactly at the first head. -/
theorem first_head : ∀ t : Fin grid0.N, k0_cond1 (grid0.coords t) = 1#1 ↔ t.val % 8 = 0 := by decide +kernel

/-- At the first head the body's result does not depend on what it found. -/
theorem stepAt_first (c : Dev nD) (t : Fin cfg0.N) (h : t.val % 8 = 0) (o o' : Vec F S256x1024 .f32) : stepAt V c t o = stepAt V c t o' := by
  unfold stepAt step opening
  simp only [if_pos ((first_head t).mpr h)]

/-- The region's pipeline data: the inputs' buffers hold their blocks, the result's the accumulation; what is owed rides through. -/
def dat0 (c : Dev nD) : Dat τ (Elt F) Unit ℕ UU ℕ cfg0 c where
  A w := V c (Pipeline.arrRef spec0 w)
  after := fun
    | 0 => fun t => xAt V c t
    | 1 => fun t => wqAt V c t
    | 2 => fun t => kAt V c t
    | 3 => fun t => vAt V c t
    | 4 => fun t => woAt V c t
    | 5 => fun t => accAt V c t.val t.isLt
  Φ _ := iprop(Pipeline.scopedRest spec0 c ∗ ∃ r, prngReg c r)
  q _ := fullShare
  owed _ := dueBars c 0

/-- A window's cut depends on its block index only. -/
theorem unmoved (w : Fin 6) : ∀ t t' : Fin cfg0.N, (cfg0.win w).index t = (cfg0.win w).index t' →
    (cfg0.win w).clip (cfg0.grid.coords t) = (cfg0.win w).clip (cfg0.grid.coords t') := by
  intro t t' _
  fin_cases w <;> rfl

/-- Each input's buffer holds its block. -/
theorem before_x (c : Dev nD) (t : Fin cfg0.N) (d) : (dat0 V c).before 0 t d = xAt V c t :=
  ((dat0 V c).before_in_eq_fetched 0 rfl (fun _ => rfl) (unmoved 0) (fun _ => rfl) t d).trans rfl
@[inherit_doc before_x] theorem before_wq (c : Dev nD) (t : Fin cfg0.N) (d) : (dat0 V c).before 1 t d = wqAt V c t :=
  ((dat0 V c).before_in_eq_fetched 1 rfl (fun _ => rfl) (unmoved 1) (fun _ => rfl) t d).trans rfl
@[inherit_doc before_x] theorem before_k (c : Dev nD) (t : Fin cfg0.N) (d) : (dat0 V c).before 2 t d = kAt V c t :=
  ((dat0 V c).before_in_eq_fetched 2 rfl (fun _ => rfl) (unmoved 2) (fun _ => rfl) t d).trans rfl
@[inherit_doc before_x] theorem before_v (c : Dev nD) (t : Fin cfg0.N) (d) : (dat0 V c).before 3 t d = vAt V c t :=
  ((dat0 V c).before_in_eq_fetched 3 rfl (fun _ => rfl) (unmoved 3) (fun _ => rfl) t d).trans rfl
@[inherit_doc before_x] theorem before_wo (c : Dev nD) (t : Fin cfg0.N) (d) : (dat0 V c).before 4 t d = woAt V c t :=
  ((dat0 V c).before_in_eq_fetched 4 rfl (fun _ => rfl) (unmoved 4) (fun _ => rfl) t d).trans rfl

/-- A point always stores its result: the window is never idle. -/
theorem busy (i : grid0.Coords) : idle0 5 i = false := by
  have h := one_body i
  show (!(k0_cond1 i == 1#1) && !(k0_cond2 i == 1#1) && !(k0_cond3 i == 1#1)) = false
  by_cases e3 : k0_cond3 i = 1#1
  · simp [e3]
  · simp [h.mpr e3]

/-- What the body makes of the result's buffer is the accumulation. -/
theorem step_before (c : Dev nD) (t : Fin cfg0.N) (d) : stepAt V c t ((dat0 V c).before 5 t d) = accAt V c t.val t.isLt := by
  obtain ⟨n, hn⟩ := t
  cases n with
  | zero => exact stepAt_first V c _ rfl _ _
  | succ n =>
    by_cases h : (n + 1) % 8 = 0
    · exact stepAt_first V c _ h _ _
    · have hfl : (cfg0.win 5).flush ⟨n, Nat.lt_of_succ_lt hn⟩ = false := by
        rw [Bool.eq_false_iff]
        intro hf
        have := (flush0_5 ⟨n, Nat.lt_of_succ_lt hn⟩).mp hf
        dsimp only at this
        omega
      rw [(dat0 V c).before_out_kept 5 rfl ⟨n + 1, hn⟩ (Nat.succ_ne_zero n) hfl busy (fun _ _ => rfl) d]
      rfl

/-! ## The body's obligation -/

/-- A whole buffer's view covers it. -/
theorem whole_set {sp : Space} {S : Shape} {e : EltTy} (M : Memref sig .tc sp S e) (h : M.IsWhole) : M.view.set = Finset.univ := by
  obtain ⟨b, hsp, hs, he, hM⟩ := h
  subst hsp hs he
  cases hM
  exact View.set_whole _

/-- A staging buffer owned at some contents, as the points-to of its whole buffer, and back. -/
theorem take {S : Shape} {e : EltTy} (c : Dev nD) (M : Memref sig .tc .vmem S e) (h : M.IsWhole) (x : S.Idx → Elt F e) :
    (owns (c : Thread nD τ) M fullShare x : sProp 𝕄) ⊢ iprop(∃ f, ⌜M.view.read (Elt F) f = x⌝ ∗ pt c M f) := by
  unfold owns
  rw [whole_set M h]
/-- A whole buffer's view holds what the buffer holds. -/
theorem give {S : Shape} {e : EltTy} (c : Dev nD) (M : Memref sig .tc .vmem S e) (h : M.IsWhole) (x : S.Idx → Elt F e) :
    iprop(∃ f, ⌜M.view.read (Elt F) f = x⌝ ∗ pt c M f) ⊢ (owns (c : Thread nD τ) M fullShare x : sProp 𝕄) := by
  unfold owns
  rw [whole_set M h]

/-- What the obligation asks of the result's buffer, which no point leaves idle. -/
theorem hand_over (c : Dev nD) (t : Fin cfg0.N) :
    (owns (c : Thread nD τ) (st0_5 t) fullShare (accAt V c t.val t.isLt) : sProp 𝕄)
      ⊢ (match idle0 5 (grid0.coords t) with
        | true =>
          match (win0 5).flush t with
          | false => iprop(∃ d, owns (c : Thread nD τ) (stage0_5 (cfg0.slots t 5)) fullShare ((dat0 V c).before 5 t d))
          | true => owns (c : Thread nD τ) (stage0_5 (cfg0.slots t 5)) fullShare ((dat0 V c).after 5 t)
        | false => owns (c : Thread nD τ) (stage0_5 (cfg0.slots t 5)) fullShare ((dat0 V c).after 5 t)) := by
  rw [busy]
  exact .rfl

/-- The body at every point: from the six buffers as that point finds them to the six as it leaves them. -/
theorem body0 (c : Dev nD) : BodyObligation (dat0 V c) (defs₀ (F := F)) 𝒱₀ () Set.univ := fun t => by
  rw [bigSep_W0, bigSep_W0]
  have e0 : (dat0 V c).Φ t.castSucc = iprop(Pipeline.scopedRest spec0 c ∗ ∃ r, prngReg c r) := rfl
  have e1 : (dat0 V c).Φ t.succ = iprop(Pipeline.scopedRest spec0 c ∗ ∃ r, prngReg c r) := rfl
  have e2 : (dat0 V c).owesAt () t.succ = (dat0 V c).owesAt () t.castSucc := rfl
  rw [e0, e1, e2]
  iintro ⟨HΦ, HO, ⟨%d0, H0⟩, ⟨%d1, H1⟩, ⟨%d2, H2⟩, ⟨%d3, H3⟩, ⟨%d4, H4⟩, ⟨%d5, H5⟩⟩
  ihave H0 := (take c (st0_0 t) (hstage0_0 ((cfg0.slots t 0).cast nbuf0_0)) ((dat0 V c).before 0 t d0)) $$ H0
  ihave H1 := (take c (st0_1 t) (hstage0_1 ((cfg0.slots t 1).cast nbuf0_1)) ((dat0 V c).before 1 t d1)) $$ H1
  ihave H2 := (take c (st0_2 t) (hstage0_2 ((cfg0.slots t 2).cast nbuf0_2)) ((dat0 V c).before 2 t d2)) $$ H2
  ihave H3 := (take c (st0_3 t) (hstage0_3 ((cfg0.slots t 3).cast nbuf0_3)) ((dat0 V c).before 3 t d3)) $$ H3
  ihave H4 := (take c (st0_4 t) (hstage0_4 ((cfg0.slots t 4).cast nbuf0_4)) ((dat0 V c).before 4 t d4)) $$ H4
  ihave H5 := (take c (st0_5 t) (hstage0_5 ((cfg0.slots t 5).cast nbuf0_5)) ((dat0 V c).before 5 t d5)) $$ H5
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases H5 with ⟨%f5, %h5, H5⟩
  rw [before_x] at h0
  rw [before_wq] at h1
  rw [before_k] at h2
  rw [before_v] at h3
  rw [before_wo] at h4
  iapply (body_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5)) f0 f1 f2 f3 f4 f5)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%W, %hW, H5⟩⟩
  isplitl [HΦ]; · iexact HΦ
  isplitl [HO]; · iexact HO
  isplitl [H0]
  · iapply (give c (st0_0 t) (hstage0_0 ((cfg0.slots t 0).cast nbuf0_0)) (xAt V c t))
    iexists _; isplitr; swap; (· iexact H0); ipureintro; exact h0
  isplitl [H1]
  · iapply (give c (st0_1 t) (hstage0_1 ((cfg0.slots t 1).cast nbuf0_1)) (wqAt V c t))
    iexists _; isplitr; swap; (· iexact H1); ipureintro; exact h1
  isplitl [H2]
  · iapply (give c (st0_2 t) (hstage0_2 ((cfg0.slots t 2).cast nbuf0_2)) (kAt V c t))
    iexists _; isplitr; swap; (· iexact H2); ipureintro; exact h2
  isplitl [H3]
  · iapply (give c (st0_3 t) (hstage0_3 ((cfg0.slots t 3).cast nbuf0_3)) (vAt V c t))
    iexists _; isplitr; swap; (· iexact H3); ipureintro; exact h3
  isplitl [H4]
  · iapply (give c (st0_4 t) (hstage0_4 ((cfg0.slots t 4).cast nbuf0_4)) (woAt V c t))
    iexists _; isplitr; swap; (· iexact H4); ipureintro; exact h4
  · iapply (hand_over V c t)
    iapply (give c (st0_5 t) (hstage0_5 ((cfg0.slots t 5).cast nbuf0_5)) (accAt V c t.val t.isLt))
    iexists _; isplitr; swap; (· iexact H5); ipureintro
    rw [hW, h0, h1, h2, h3, h4, h5]
    exact step_before V c t d5

/-! ## The record -/

/-- The device's share of the output before the all-reduce: the region's result. -/
def shareOf (c : Dev nD) : Arr F := (dat0 V c).arrAt 5 cfg0.N

/-- The buffers after the region. -/
abbrev after0 (c : Dev nD) : Valuation τ sig (Elt F) := Function.update (V c) main_v20 (shareOf V c)

variable (V₁ : Dev nD → Valuation τ sig (Elt F))

/-- The two regions' data. -/
abbrev datas : (p : Fin 2) → (c : Dev nD) → Dat τ (Elt F) Unit ℕ UU ℕ (cfgs p) c := pdats V₁ (dat0 V)

/-- The staging semaphores are none of the protocol's. -/
theorem staged0 : ∀ (w : Fin 6) (s : Fin (spec0 w).nbuf), siteOf (.dma ((spec0 w).sem s)) = none := by decide

/-- The staging waits lie below what is owed. -/
theorem cut0 : Pipeline.LevelCut (pcfgs (F := F)) adm () L lv 0 (fun c => dueBars c 0) (fun _ => 0) where
  hι c w s := by rw [L_tc]; exact Finset.mem_singleton_self _
  hιb c w s := le_of_eq (lv_none _ (staged0 w s))
  hD c g i h := pos_cell h

/-- The region's launch facts. -/
theorem kit0 : Pipeline.PLaunchFacts (nD := nD) (τ := τ) (pcfgs (F := F)) 0 := launch0.toP

set_option backward.isDefEq.respectTransparency.types false in
/-- The attention's record: what the all-reduce needs rides past it. -/
def reg0 (X : Dev nD → Arr F) : Pipeline.RegionSeg (pcfgs (F := F)) adm (datas V V₁) () defs₀ 𝒱₀ L lv 0 :=
  Pipeline.RegionSeg.ofHeldIn (pcfgs (F := F)) adm (datas V V₁) () defs₀ 𝒱₀ L lv 0 (fun c => dueBars c 0) (Pipeline.ucRefs τ sig)
    (fun c => iprop(∃ r, prngReg c r)) (fun c => iprop(∃ r, prngReg c r)) kit0 rfl (fun c => (body0 V c).loose)
    (fun _ _ => rfl) (fun _ => rfl) (fun _ w => by fin_cases w <;> rfl)
    (fun c => .rfl) (fun c => .rfl) (fun _ => 0) cut0 (fun c => kept X c) V (fun c w => by fin_cases w <;> rfl)

/-- The windows' arrays are unscoped. -/
theorem arr0_sub : Pipeline.arrRefs (τ := τ) spec0 ⊆ Pipeline.ucRefs τ sig := by decide

/-- It is entered from the unscoped buffers and what rides beside them. -/
theorem reg0_pre (X : Dev nD → Arr F) (c : Dev nD) :
    iprop(StableHlo.held (c : Thread nD τ) (Pipeline.ucRefs τ sig) (V c) ∗ riding X c) ⊢ (reg0 V V₁ X).pre c := by
  show _ ⊢ iprop(StableHlo.held (c.tc : Thread nD τ) (Pipeline.arrRefs (τ := τ) spec0) (V c) ∗ (∃ r, prngReg c r)
    ∗ (StableHlo.held (c.tc : Thread nD τ) (Pipeline.ucRefs τ sig \ Pipeline.arrRefs (τ := τ) spec0) (V c) ∗ kept X c)
    ∗ ∃ Wd, owes (c : Thread nD τ) (dueBars c 0) Wd)
  rw [StableHlo.held_sub_split (c.tc : Thread nD τ) arr0_sub (V c)]
  unfold riding
  iintro ⟨⟨Ha, Hs⟩, HK, Hp, HO⟩
  isplitl [Ha]; · iexact Ha
  isplitl [Hp]; · iexact Hp
  isplitl [Hs HK]
  · isplitl [Hs] <;> iassumption
  iexact HO

/-- The region changes its result only. -/
theorem off0 (c : Dev nD) {b : DevRef τ sig} (hb : b ≠ Proc.devRef .tc main_v20) : after0 V c b = V c b := Function.update_of_ne hb _ _
/-- The result is among the windows' arrays. -/
theorem not_arr0 : (Proc.devRef (τ := τ) .tc main_v20) ∉ Pipeline.ucRefs τ sig \ Pipeline.arrRefs (τ := τ) spec0 := by decide
/-- The inputs are not the result. -/
theorem arr0_inputs : ∀ w : Fin 6, w ≠ 5 → (Proc.devRef (τ := τ) .tc (Pipeline.arrRef spec0 w)) ≠ Proc.devRef .tc main_v20 := by decide
/-- The first five windows are inputs. -/
theorem inputs0 : ∀ w : Fin 6, w ≠ 5 → (cfg0.win w).isOut = false := by decide

/-- Its result's array takes the accumulated blocks; every other array is as it was. -/
theorem after0_arr (c : Dev nD) : ∀ b ∈ Pipeline.arrRefs (τ := τ) spec0, Pipeline.afterRegion (dat0 V c) (V c) b = after0 V c b := by
  intro b hb
  obtain ⟨r, hr, rfl⟩ := Finset.mem_map.mp hb
  obtain ⟨w, -, rfl⟩ := Finset.mem_image.mp hr
  refine (Pipeline.afterRegion_arr (dat0 V c) (V c) (kit0 (F := F)).win.arr_inj w).trans ?_
  by_cases h : w = 5
  · subst h
    exact (Function.update_self (Proc.devRef (τ := τ) .tc main_v20) (shareOf V c) (V c)).symm
  · exact ((dat0 V c).arrAt_in w (inputs0 w h) _).trans (off0 V c (arr0_inputs w h)).symm

/-- It is left with the result's array at the accumulated blocks, what rode past it as it was. -/
theorem reg0_post (X : Dev nD → Arr F) (c : Dev nD) :
    (reg0 V V₁ X).post c ⊢ iprop(StableHlo.held (c : Thread nD τ) (Pipeline.ucRefs τ sig) (after0 V c) ∗ riding X c) := by
  show iprop(StableHlo.held (c.tc : Thread nD τ) (Pipeline.arrRefs (τ := τ) spec0) (Pipeline.afterRegion (dat0 V c) (V c)) ∗ (∃ r, prngReg c r)
    ∗ (StableHlo.held (c.tc : Thread nD τ) (Pipeline.ucRefs τ sig \ Pipeline.arrRefs (τ := τ) spec0) (V c) ∗ kept X c)
    ∗ ∃ Wd, owes (c : Thread nD τ) (dueBars c 0) Wd) ⊢ _
  rw [StableHlo.held_sub_split (c.tc : Thread nD τ) arr0_sub (after0 V c),
    StableHlo.held_congr (c.tc : Thread nD τ) (after0_arr V c),
    StableHlo.held_congr (c.tc : Thread nD τ) (S := Pipeline.ucRefs τ sig \ Pipeline.arrRefs (τ := τ) spec0) (V := after0 V c) (V' := V c)
      fun b hb => off0 V c fun e => not_arr0 (by rw [← e]; exact hb)]
  unfold riding
  iintro ⟨Ha, Hp, ⟨Hs, HK⟩, HO⟩
  isplitl [Ha Hs]
  · isplitl [Ha] <;> iassumption
  isplitl [HK]; · iexact HK
  isplitl [Hp] <;> iassumption

end Cert.KernelIdeal.Attend
-- ==== Proof.Run.lean ====
/-
  The kernel's run: the two regions between the host's stretches, on every device.
-/
module

public import proofs.«01_k».proof.Proof.Region0
public import proofs.«01_k».proof.Proof.Gen.KernelIdeal.Regions
public import Idealize.ShloMosaic.Lib.Quiescent

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Seg)
open Cert.KernelIdeal Cert.KernelIdeal.Gen Cert.KernelIdeal.Halving Cert.KernelIdeal.Attend

variable {F : FTy → Type} [FloatOps F] [Named F]

local notation "𝕄" => MT nD τ sig Unit (Elt F) ℕ UU ℕ

variable (m : (ℓ : Loc nD τ sig) → Buf (Elt F) ℓ) (ρ : Dev nD → PrngReg)

/-- The buffers after the attention region. -/
abbrev mid (c : Dev nD) : Valuation τ sig (Elt F) := after0 (V1 m) c
/-- The buffers after the all-reduce region. -/
abbrev late (c : Dev nD) : Valuation τ sig (Elt F) := after1 (mid m) c

/-- What the two regions leave in their results. -/
def outs : Outs (F := F) := fun _ r c => late m c r

/-- The buffers after the attention. -/
theorem V2_eq (c : Dev nD) : V2 m (outs m) c = mid m c := by
  show Function.update (V1 m c) main_v20 (late m c main_v20) = mid m c
  rw [show late m c main_v20 = mid m c main_v20 from after1_in (mid m) c,
    show mid m c main_v20 = shareOf (V1 m) c from Function.update_self _ _ _]
/-- The buffers after the all-reduce. -/
theorem V3_eq (c : Dev nD) : V3 m (outs m) c = late m c := by
  show Function.update (V2 m (outs m) c) main_v21 (late m c main_v21) = late m c
  rw [V2_eq, show late m c main_v21 = held (brought (mid m)) 6 c from after1_out (mid m) c]

/-- What rides beside the buffers at each stage. -/
def rest : Fin 3 → Dev nD → sProp 𝕄
  | 0 => riding (brought (mid m))
  | 1 => riding (brought (mid m))
  | 2 => closing

/-- The two regions' data and records, at the buffers of this run. -/
abbrev pdat := datas (V1 m) (mid m)
@[inherit_doc pdat] abbrev rec0 := reg0 (V1 m) (mid m) (brought (mid m))
@[inherit_doc pdat] abbrev rec1 := reg1 (mid m) (dat0 (V1 m))

/-- The barrier's is the only unscoped semaphore. -/
theorem unscoped_bar_only : ∀ sm : SemLoc sig, sm.isScoped .tc = false → sm = Site.bar.sem := by decide

set_option backward.isDefEq.respectTransparency.types false in
/-- Every weakly fair execution terminates; the arguments end as launched, the result holds what the last stretch makes
    of the all-reduce's, and every semaphore is back at zero. -/
theorem run_main : θ_run defs (onTc (τ := τ) (main (F := F))) ⟨m, fun _ => 0, ρ⟩ (fun r => (∀ c : Dev nD,
      r.2.mem ((c.tc : Thread nD τ).loc main_v22) = V4 m (outs m) c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (pdat m) () cellOf_inj EP defs₀ 𝒱₀ L lv m ρ main
    (segs m (outs m) 𝒱₀ L lv (rest m) () (pdat m) (rec0 m) (rec1 m))
    (fun c Q => by
      rewrite [main_chain c, Seg.run_eq_chain,
        show (segs m (outs m) 𝒱₀ L lv (rest m) () (pdat m) (rec0 m) (rec1 m) c).map Seg.prog = [
          StableHlo.seq (hostOps0 c),
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun c => dueBars c 0) L_of_ne G u₀ fund
    (T₀ := fun c => iprop(StableHlo.held (c : Thread nD τ) (Pipeline.ucRefs τ sig) (V0 m c) ∗ rest m 0 c))
    (Tₙ := fun c => iprop(StableHlo.held (c : Thread nD τ) (Pipeline.ucRefs τ sig) (V4 m (outs m) c) ∗ semVal (cell c .bar) 0))
    (hch := fun c => ⟨.rfl, ?_, ?_, ?_, ?_⟩)
    (hinit := ?_)
    (QY := fun c s => (s.mem ((c.tc : Thread nD τ).loc main_v22) = V4 m (outs m) c main_v22
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.sem (cell c .bar) = 0)
    (hfin := fun c s' => ?_)
    (hQ := fun s h hs => ⟨fun c => (h c).1, sem_eq_zero hs fun c sm hsm => by
      obtain rfl := unscoped_bar_only sm hsm
      exact (h c).2⟩)
  · exact reg0_pre (V1 m) (mid m) (brought (mid m)) c
  · refine (reg0_post (V1 m) (mid m) (brought (mid m)) c).trans ?_
    exact reg1_pre (mid m) (dat0 (V1 m)) c
  · refine (reg1_post (mid m) (dat0 (V1 m)) c).trans ?_
    show iprop(StableHlo.held (c : Thread nD τ) (Pipeline.ucRefs τ sig) (late m c) ∗ closing c)
      ⊢ iprop(StableHlo.held (c : Thread nD τ) (Pipeline.ucRefs τ sig) (V3 m (outs m) c) ∗ closing c)
    rw [V3_eq]
  · show iprop(StableHlo.held (c : Thread nD τ) (Pipeline.ucRefs τ sig) (V4 m (outs m) c) ∗ closing c)
      ⊢ iprop((StableHlo.held (c : Thread nD τ) (Pipeline.ucRefs τ sig) (V4 m (outs m) c) ∗ semVal (cell c .bar) 0)
        ∗ ∃ W, owes (c.tc : Thread nD τ) (0 : CellTallies nD τ sig Unit) W)
    unfold closing
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (dueBars c 0) ∅ ∗ Pipeline.launchCred (fun d => dueBars d 0) c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (dueBars c 0) ∅
              ∗ Pipeline.launchCred (fun d => dueBars d 0) c ∗ prngReg c (ρ c) ∗ G c)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (start (brought (mid m)) ρ) $$ [Hr Hla] with HE
    · isplitl [Hr]; · iexact Hr
      iexact Hla
    imodintro
    iapply (Entails.of_eq (bigSep_sep' _ _ _).symm)
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      have at_ (b : Ref sig .tc) (hb : ¬ (Proc.devRef (τ := τ) .tc b).isScoped) := h (Proc.devRef .tc b) (Finset.mem_filter.mpr ⟨StableHlo.devRef_mem_tcRefs b, hb⟩)
      exact ⟨⟨at_ main_v22 (by decide),
        (at_ main_arg0 (by decide)).trans (V4_main_arg0 m (outs m) c),
        (at_ main_arg1 (by decide)).trans (V4_main_arg1 m (outs m) c),
        (at_ main_arg2 (by decide)).trans (V4_main_arg2 m (outs m) c),
        (at_ main_arg3 (by decide)).trans (V4_main_arg3 m (outs m) c),
        (at_ main_arg4 (by decide)).trans (V4_main_arg4 m (outs m) c)⟩, by simpa using hb⟩
    · iexact HSI

end Cert.KernelIdeal.Run
-- ==== Proof.Frames.lean ====
/-
  The kernel and its idealization run to the end, keep their arguments, and leave every semaphore at zero.
-/
module

public import proofs.«01_k».proof.Proof.Run
public import proofs.«01_k».proof.Proof.Gen.Kernel
public import proofs.«01_k».proof.Proof.Gen.ReferenceIdeal.Run
public import proofs.«01_k».proof.Defs
public import Idealize.ShloMosaic.PureOps.BitExact

@[expose] public section

noncomputable section

namespace Cert.KernelIdeal.Run

open Idealize.ShloMosaic
open Idealize.ShloMosaic.TcCoe
open Idealize.SL Idealize.SL.Sem
open Cert.KernelIdeal Cert.KernelIdeal.Gen

/-- A named constant read bit for bit: the constant it stands for. -/
instance : Named Bits where
  named _ _ {_} bits := Scalar.ofBits _ bits

/-- The idealized kernel's frame. -/
theorem frame_ideal : Cert.quiescent_KernelIdeal := fun m g _ =>
  (θ_run Cert.KernelIdeal.defs _ _).mono (fun _ h => ⟨fun c => (h.1 c).2, h.2⟩) (run_main m g)

/-- The two programs' body tables read the same, bit for bit. -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  revert a
  match l with
  | 0 => exact fun _ => rfl
  | 1 => exact fun _ => rfl

/-- So do their tables with the pipelines. -/
theorem tables_same : Cert.Kernel.defs (F := Bits) = Cert.KernelIdeal.defs (F := Bits) :=
  congrArg (Pipeline.defs (pcfgs (F := Bits))) bodies_same

/-- So do their entry points. -/
theorem mains_same : Cert.Kernel.main (F := Bits) = Cert.KernelIdeal.main (F := Bits) := rfl

/-- The kernel's own frame: its text is the idealized one's, its two named constants written out. -/
theorem frame_kernel : Cert.quiescent_Kernel := fun m g _ => by
  have h := (θ_run (Cert.KernelIdeal.defs (F := Bits)) _ _).mono (fun _ h => And.intro (fun c => (h.1 c).2) h.2) (run_main (F := Bits) m g)
  rw [← tables_same, ← mains_same] at h
  exact h

/-- The mask's constant is named as the claim says. -/
theorem preserved : Cert.preserves_Kernel_KernelIdeal :=
  IdealRules.named_const.statement _ _ _ _ _ rfl

/-- The reference's frame: it has no semaphore at all. -/
theorem frame_reference : Cert.quiescent_ReferenceIdeal := fun m g _ =>
  (θ_run Cert.ReferenceIdeal.defs _ _).mono (fun _ h => ⟨fun c => (h c).2, sem_eq_zero_of_no_sems (by decide) _⟩)
    (Cert.ReferenceIdeal.Value.run (F := Ideal) m g)

end Cert.KernelIdeal.Run
-- ==== Proof.Spec.lean ====
/-
  Attention with a local mask, written on plain functions of extended reals: a row's scores, its weights,
  its mix of the value rows, and the share one head adds to an output entry. A row whose unmasked scores are finite has
  the same mix over any set of columns that holds all its unmasked ones.
-/
module

public import Idealize.ShloMosaic.PureOps.Ideal
public import Idealize.ShloMosaic.PureOps.Ideal.Laws
public import Idealize.ShloMosaic.Lib.IdealHost

@[expose] public section

noncomputable section

namespace Cert.Spec

open Idealize.ShloMosaic
open scoped BigOperators

/-- The scores' scale, `1 / √128` as an f32 word. -/
abbrev scale : EReal := Ideal.ofBits .f32 0x3DB504F3#32

/-- Row `i` attends to column `j`: they are within 128 of one another, or one of them is among the first 32. -/
abbrev near (i j : ℕ) : Prop := (i ≤ j + 128 ∧ j ≤ i + 128) ∨ j < 32 ∨ i < 32

/-- The largest of a row's scores, `⊥` for an empty row. -/
def top {n : ℕ} (s : Fin n → EReal) : EReal := Finset.univ.fold max ⊥ s
/-- A row's weights: the exponentials of its scores less the largest, over their sum. -/
def weight {n : ℕ} (s : Fin n → EReal) (j : Fin n) : EReal :=
  Ideal.div (Ideal.exp (s j - top s)) (∑ k, Ideal.exp (s k - top s))
/-- The weighted sum of a column of values. -/
def mix {n : ℕ} (s v : Fin n → EReal) : EReal := ∑ j, weight s j * v j

/-- A row's scores: the query's products with the keys, scaled, `⊥` at the columns the row does not attend to. -/
def score (x : Fin 1024 → EReal) (wq : Fin 1024 → Fin 128 → EReal) (k : Fin 2048 → Fin 128 → EReal) (i : ℕ) (j : Fin 2048) : EReal :=
  if near i j.val then (∑ d, (∑ e, x e * wq e d) * k j d) * scale else ⊥
/-- One head's share of output entry `n` of row `i`. -/
def head (x : Fin 1024 → EReal) (wq : Fin 1024 → Fin 128 → EReal) (k v : Fin 2048 → Fin 128 → EReal) (wo : Fin 128 → EReal) (i : ℕ) : EReal :=
  ∑ d, mix (score x wq k i) (fun j => v j d) * wo d

/-- A finite extended real. -/
abbrev Finite (x : EReal) : Prop := ∃ r : ℝ, x = r

/-- Products of finite values are finite. -/
theorem Finite.mul {x y : EReal} : Finite x → Finite y → Finite (x * y) := by
  rintro ⟨a, rfl⟩ ⟨b, rfl⟩
  exact ⟨a * b, (EReal.coe_mul a b).symm⟩

/-- Sums of finite values are finite. -/
theorem Finite.sum {n : ℕ} {f : Fin n → EReal} (h : ∀ k, Finite (f k)) : Finite (∑ k, f k) := by
  choose g hg using h
  refine ⟨∑ k, g k, ?_⟩
  rw [Finset.sum_congr rfl fun k _ => hg k]
  induction (Finset.univ : Finset (Fin n)) using Finset.induction_on with
  | empty => simp
  | insert a s ha ih => rw [Finset.sum_insert ha, Finset.sum_insert ha, EReal.coe_add, ih]

/-- The scale is finite. -/
theorem scale_finite : Finite scale := by
  unfold scale Ideal.ofBits Ideal.ieee
  norm_num
  exact ⟨_, rfl⟩

/-- With finite operands a score is below `⊤`, and above `⊥` where the row attends. -/
theorem score_finite {x : Fin 1024 → EReal} {wq : Fin 1024 → Fin 128 → EReal} {k : Fin 2048 → Fin 128 → EReal} (hx : ∀ e, Finite (x e))
    (hw : ∀ e d, Finite (wq e d)) (hk : ∀ j d, Finite (k j d)) (i : ℕ) (j : Fin 2048) (h : near i j.val) : Finite (score x wq k i j) := by
  unfold score
  rw [if_pos h]
  exact (Finite.sum fun d => (Finite.sum fun e => (hx e).mul (hw e d)).mul (hk j d)).mul scale_finite

/-- Exponentials are not negative. -/
theorem exp_nonneg (x : EReal) : 0 ≤ Ideal.exp x := by
  induction x using EReal.rec with
  | bot => exact le_refl _
  | top => exact le_top
  | coe r => exact EReal.coe_nonneg.mpr (Real.exp_pos r).le

/-- The exponential is positive but at −∞. -/
theorem exp_pos {x : EReal} (h : x ≠ ⊥) : 0 < Ideal.exp x := by
  induction x using EReal.rec with
  | bot => exact absurd rfl h
  | top => exact EReal.zero_lt_top
  | coe r => exact EReal.coe_pos.mpr (Real.exp_pos r)

/-- A difference is −∞ only at −∞ or less +∞. -/
theorem sub_ne_bot {x y : EReal} (hx : x ≠ ⊥) (hy : y ≠ ⊤) : x - y ≠ ⊥ := by
  rw [sub_eq_add_neg]
  exact fun h => (EReal.add_eq_bot_iff.mp h).elim hx fun h' => hy (EReal.neg_eq_bot_iff.mp h')

/-- Division by a value that is not zero. -/
theorem div_of_ne {x y : EReal} (h : y ≠ 0) : Ideal.div x y = x * y⁻¹ := by
  unfold Ideal.div; rw [if_neg h]

/-- The largest score, as a supremum. -/
theorem top_eq_sup {n : ℕ} (s : Fin n → EReal) : top s = Finset.univ.sup s := rfl

/-- The mix over a set of columns outside which every score is `⊥`. -/
theorem mix_restrict {n m : ℕ} (s v : Fin n → EReal) (col : Fin m → Fin n) (inj : Function.Injective col)
    (out : ∀ j, (∀ k, col k ≠ j) → s j = ⊥) (lt : ∀ j, s j ≠ ⊤) (k₀ : Fin m) (h₀ : s (col k₀) ≠ ⊥) :
    mix s v = mix (fun k => s (col k)) (fun k => v (col k)) := by
  have htop : top s = top fun k => s (col k) := by
    rw [top_eq_sup, top_eq_sup]
    apply le_antisymm
    · refine Finset.sup_le fun j _ => ?_
      by_cases hj : ∃ k, col k = j
      · obtain ⟨k, rfl⟩ := hj
        exact Finset.le_sup (f := fun k => s (col k)) (Finset.mem_univ k)
      · rw [out j fun k hk => hj ⟨k, hk⟩]; exact bot_le
    · exact Finset.sup_le fun k _ => Finset.le_sup (f := s) (Finset.mem_univ (col k))
  have hbot : top s ≠ ⊥ := fun h => h₀ (le_bot_iff.mp (h ▸ (Finset.le_sup (f := s) (Finset.mem_univ (col k₀)) : s (col k₀) ≤ Finset.univ.sup s)))
  have zero : ∀ j, s j = ⊥ → Ideal.exp (s j - top s) = 0 := fun j h => by rw [h, EReal.bot_sub]; rfl
  have hl : (∑ k, Ideal.exp (s k - top s)) ≠ 0 := by
    have htop' : top s ≠ ⊤ := by
      rw [top_eq_sup]
      exact ((Finset.sup_lt_iff bot_lt_top).mpr fun j _ => lt_top_iff_ne_top.mpr (lt j)).ne
    have hpos : 0 < Ideal.exp (s (col k₀) - top s) := exp_pos (sub_ne_bot h₀ htop')
    exact (lt_of_lt_of_le hpos (Finset.single_le_sum (f := fun k => Ideal.exp (s k - top s)) (fun k _ => exp_nonneg _) (Finset.mem_univ (col k₀)))).ne'
  have hsum : ∀ f : Fin n → EReal, (∀ j, (∀ k, col k ≠ j) → f j = 0) → ∑ j, f j = ∑ k, f (col k) := fun f hf => by
    refine (Finset.sum_of_injOn col inj.injOn (fun _ _ => Finset.mem_univ _) (fun j _ hj => hf j fun k hk => hj ⟨k, by simp, hk⟩) fun _ _ => rfl).symm
  unfold mix weight
  rw [hsum _ fun j hj => by rw [zero j (out j hj), div_of_ne hl, zero_mul, zero_mul], ← htop,
    hsum (fun k => Ideal.exp (s k - top s)) fun j hj => zero j (out j hj)]

end Cert.Spec

end
-- ==== Proof.Words.lean ====
/-
  The mask's 32-bit words as statements about row and column numbers, and the float constants of a masked row.
-/
module

public import proofs.«01_k».proof.Proof.Spec
public import Idealize.ShloMosaic.Lib.WordCmp
public import Idealize.ShloMosaic.Lib.Pointwise

@[expose] public section

noncomputable section

namespace Cert.Spec

open Idealize.ShloMosaic

/-- The pattern of −∞ is −∞. -/
theorem minus_inf : Ideal.ofBits .f32 0xFF800000#32 = ⊥ := by simp [Ideal.ofBits, Ideal.ieee]

/-- A select on a decided word. -/
theorem select_ofBool {α : Type} (p : Prop) [Decidable p] (a b : α) : Scalar.select (BitVec.ofBool (decide p)) a b = if p then a else b := by
  by_cases h : p <;> simp [Scalar.select, h]

/-- The distance of two small numbers as a word, read signed. -/
theorem absi_sub {i j : ℕ} (hi : i < 2048) (hj : j < 2048) :
    (IntOp.absi (IntOp.subi (BitVec.ofNat 32 i) (BitVec.ofNat 32 j))).toInt = |(i : ℤ) - j| := by
  have hs : ∀ a b : ℕ, a < 2048 → b < 2048 → b ≤ a → BitVec.ofNat 32 a - BitVec.ofNat 32 b = BitVec.ofNat 32 (a - b) := fun a b ha hb h => by
    apply BitVec.eq_of_toNat_eq
    rw [BitVec.toNat_sub, BitVec.toNat_ofNat, BitVec.toNat_ofNat, BitVec.toNat_ofNat]
    omega
  have hm : ∀ a : ℕ, a < 2048 → (BitVec.ofNat 32 a).msb = false := fun a ha => by
    rw [BitVec.msb_eq_decide, BitVec.toNat_ofNat]
    exact decide_eq_false (by omega)
  unfold IntOp.absi IntOp.subi
  rcases le_total j i with h | h
  · rw [hs i j hi hj h, hm _ (by omega), if_neg (by simp), WordCmp.toInt_ofNat_of_lt (by omega), abs_of_nonneg (by omega)]
    omega
  · rcases Nat.eq_or_lt_of_le h with rfl | h'
    · simp [BitVec.sub_self]
    · have hneg : BitVec.ofNat 32 i - BitVec.ofNat 32 j = -(BitVec.ofNat 32 (j - i)) := by rw [← hs j i hj hi h, BitVec.neg_sub, BitVec.add_comm, BitVec.sub_eq_add_neg]
      have hb : (BitVec.ofNat 32 i - BitVec.ofNat 32 j).msb = true := by
        rw [BitVec.msb_eq_decide, BitVec.toNat_sub, BitVec.toNat_ofNat, BitVec.toNat_ofNat]
        exact decide_eq_true (by omega)
      rw [hb, if_pos rfl, hneg, BitVec.neg_neg, WordCmp.toInt_ofNat_of_lt (by omega), abs_of_nonpos (by omega)]
      omega

/-- The mask's bit at row `i` and column `j`. -/
theorem mask_word {i j : ℕ} (hi : i < 2048) (hj : j < 2048) :
    IntOp.ori (IntOp.cmpi .sle (IntOp.absi (IntOp.subi (BitVec.ofNat 32 i) (BitVec.ofNat 32 j))) 128#32)
      (IntOp.ori (IntOp.cmpi .slt (BitVec.ofNat 32 j) 32#32) (IntOp.cmpi .slt (BitVec.ofNat 32 i) 32#32))
      = BitVec.ofBool (decide (near i j)) := by
  rw [WordCmp.cmpi_sle_eq, WordCmp.cmpi_slt_eq, WordCmp.cmpi_slt_eq, WordCmp.ori_ofBool, WordCmp.ori_ofBool, absi_sub hi hj,
    WordCmp.toInt_ofNat_of_lt (a := i) (by omega), WordCmp.toInt_ofNat_of_lt (a := j) (by omega)]
  have e1 : (128#32 : BitVec 32).toInt = 128 := by decide
  have e2 : (32#32 : BitVec 32).toInt = 32 := by decide
  rw [e1, e2]
  congr 1
  rw [← Bool.decide_or, ← Bool.decide_or]
  refine decide_eq_decide.mpr ?_
  unfold near
  rw [abs_le]
  omega

/-- A disjunction of bits with one of them set. -/
theorem fold_ori {n : ℕ} (i : Fin n) {f : Fin n → BitVec 1} (h : f i = 1#1) : Finset.univ.fold IntOp.ori 0#1 f = 1#1 := by
  rw [← Finset.insert_erase (Finset.mem_univ i), Finset.fold_insert (Finset.notMem_erase i _), h]
  have one : ∀ b : BitVec 1, IntOp.ori 1#1 b = 1#1 := by decide
  exact one _

end Cert.Spec

end
-- ==== Proof.Blocks.lean ====
/-
  The attention body's value at an index: each row of the block gains its head's share, whichever of the two bodies ran.
-/
module

public import proofs.«01_k».proof.Proof.Attend
public import proofs.«01_k».proof.Proof.Words
public import Idealize.ShloMosaic.Lib.Pointwise

@[expose] public section

noncomputable section

namespace Cert.KernelIdeal.Attend

open Idealize.ShloMosaic
open Cert.KernelIdeal Cert.KernelIdeal.Gen Cert.Spec
open scoped BigOperators

/-- The named mask constant is −∞. -/
theorem masked : (Named.named (F := Ideal) κ "mask" 0xCE6E6B28#32 : Ideal .f32) = (⊥ : EReal) := rfl

/-! The payloads at an index. -/

/-- A block's queries: the rows times the query weights. -/
theorem pay2_apply (x : Vec Ideal S256x1024 .bf16) (wq : Vec Ideal S1024x128 .bf16) (r : Fin 256) (d : Fin 128) :
    k0_pay2 x wq (ix2 r d) = ∑ e : Fin 1024, x (ix2 r e) * wq (ix2 e d) := by
  pointwise [k0_pay2, dot_S256x1024_S1024x128_S256x128_1_0_0_1_n_n]

/-- The row numbers of a block. -/
theorem pay3_apply (i : grid0.Coords) (r : Fin 256) : k0_pay3 i (ix2 r 0) = BitVec.ofNat 32 (256 * (i 0).val + r.val) := by
  have e : k0_pay3 i (ix2 r 0) = IntOp.addi (Scalar.muli (BitVec.ofNat 32 (i 0).val) 256#32) (BitVec.ofNat 32 r.val) := by
    pointwise [k0_pay3]
  rw [e]
  apply BitVec.eq_of_toNat_eq
  have h0 : (i 0).val < 8 := (i 0).isLt
  simp only [IntOp.addi, Scalar.muli, IntOp.muli, BitVec.toNat_add, BitVec.toNat_mul, BitVec.toNat_ofNat]
  omega

/-- The result with a head's share added, the mix read over all columns. -/
theorem pay4_apply (o : Vec Ideal S256x1024 .f32) (c : FVec Ideal S256x128 .bf16) (wo : Vec Ideal S128x1024 .bf16) (r : Fin 256) (n : Fin 1024) :
    k0_pay4 (k0_pay6 o) c (k0_pay8 wo) (constant S256x1024 .f32 0x00000000#32) (ix2 r n) = o (ix2 r n) + ∑ d : Fin 128, c (ix2 r d) * wo (ix2 d n) := by
  pointwise [k0_pay4, k0_pay6, k0_pay8, dot_S256x128_S128x1024_S256x1024_1_0_0_1_n_n]

/-- The first block's mix: the masked scores over all the columns. -/
theorem pay7_apply (q : FVec Ideal S256x128 .bf16) (w : IVec S256x1 32) (k v : Vec Ideal S1x2048x128 .bf16) (r : Fin 256) (d : Fin 128)
    (i : ℕ) (hi : i < 2048) (hw : w (ix2 r 0) = BitVec.ofNat 32 i) :
    k0_pay7 q w k v (ix2 r d)
      = mix (fun j : Fin 2048 => if near i j.val then (∑ d, q (ix2 r d) * k (ix3 0 j d)) * scale else ⊥) fun j => v (ix3 0 j d) := by
  pointwise [k0_pay7, dot_S256x128_S2048x128_S256x2048_1_1_0_0_n_n, dot_S256x2048_S2048x128_S256x128_1_0_0_1_n_n, hw]
  simp only [mask_word hi (Fin.isLt _), select_ofBool, masked, minus_inf]
  rfl

/-- A later block's update: the row's mix over the gathered columns, through the output projection. -/
theorem pay5_apply (vv : FVec Ideal S768x128 .bf16) (m : IVec S256x768 1) (s : FVec Ideal S256x768 .f32) (o : Vec Ideal S256x1024 .f32)
    (wo : Vec Ideal S128x1024 .bf16) (r : Fin 256) (n : Fin 1024) :
    k0_pay5 vv m s o wo (ix2 r n) = o (ix2 r n) + ∑ d : Fin 128,
      mix (fun j : Fin 768 => Scalar.select (m (ix2 r j)) (s (ix2 r j)) (⊥ : EReal)) (fun j => vv (ix2 j d)) * wo (ix2 d n) := by
  pointwise [k0_pay5, dot_S256x128_S128x1024_S256x1024_1_0_0_1_n_n, dot_S256x768_S768x128_S256x128_1_0_0_1_n_n]
  simp only [masked, minus_inf]
  rfl

/-- The values gathered from the first 256 columns and the later 512. -/
theorem pay9_apply (a : Vec Ideal S1x256x128 .bf16) (b : Vec Ideal S1x512x128 .bf16) (j : Fin 768) (d : Fin 128) :
    k0_pay9 a b (ix2 j d) = if h : j.val < 256 then a (ix3 0 ⟨j.val, h⟩ d) else b (ix3 0 ⟨j.val - 256, by omega⟩ d) := by
  pointwise [k0_pay9]

/-- The scores over the gathered columns. -/
theorem pay11_apply (q : FVec Ideal S256x128 .bf16) (a : Vec Ideal S1x256x128 .bf16) (b : Vec Ideal S1x512x128 .bf16) (r : Fin 256) (j : Fin 768) :
    k0_pay11 q a b (ix2 r j) = (if h : j.val < 256 then ∑ d : Fin 128, q (ix2 r d) * a (ix3 0 ⟨j.val, h⟩ d)
      else ∑ d : Fin 128, q (ix2 r d) * b (ix3 0 ⟨j.val - 256, by omega⟩ d)) * scale := by
  pointwise [k0_pay11, dot_S256x128_S256x128_S256x256_1_1_0_0_n_n, dot_S256x128_S512x128_S256x512_1_1_0_0_n_n]

/-! The gathered columns: the first 256 and a window of 512 about the block's rows. -/

/-- The window's first column. -/
def start (b : ℕ) : ℕ := min 1536 (max 256 (256 * b - 128))
/-- The column in place `j` of the gathered ones. -/
def col (b : ℕ) (j : Fin 768) : Fin 2048 :=
  if h : j.val < 256 then ⟨j.val, by omega⟩ else ⟨start b + (j.val - 256), by have := j.isLt; unfold start; omega⟩

/-- The place among all columns of a gathered one. -/
theorem col_val (b : ℕ) (j : Fin 768) : (col b j).val = if j.val < 256 then j.val else start b + (j.val - 256) := by
  unfold col; split <;> rfl

/-- Gathered columns are distinct. -/
theorem col_inj (b : ℕ) : Function.Injective (col b) := fun j j' h => by
  have hv := congrArg Fin.val h
  rw [col_val, col_val] at hv
  have : 256 ≤ start b := by unfold start; omega
  apply Fin.ext
  split at hv <;> split at hv <;> omega

/-- Past the first block, every column a row attends to is gathered. -/
theorem near_col {b r : ℕ} (hb : 1 ≤ b) (hb' : b < 8) (hr : r < 256) (j : Fin 2048) (h : near (256 * b + r) j.val) : ∃ k, col b k = j := by
  by_cases hj : j.val < 256
  · exact ⟨⟨j.val, by omega⟩, by apply Fin.ext; rw [col_val]; exact if_pos hj⟩
  · have h1 : start b ≤ j.val ∧ j.val < start b + 512 := by
      have := j.isLt
      unfold near at h
      unfold start
      omega
    refine ⟨⟨256 + (j.val - start b), by omega⟩, ?_⟩
    apply Fin.ext
    rw [col_val, if_neg (by simp)]
    simp only []
    omega

/-- The start of the later columns, as the kernel's words compute it. -/
theorem start_word : ∀ n : Fin 8, Scalar.minsi (1536#32) (Scalar.maxsi (256#32) (Scalar.subi (Scalar.muli (BitVec.ofNat 32 n.val) 256#32) 128#32))
    = BitVec.ofNat 32 (if n.val = 0 then 256 else start n.val) := by decide

/-- The kernel's test for a later row block. -/
theorem cond3_pos : ∀ n : Fin 8, ((Scalar.cmpi .ne (Scalar.extui (Scalar.cmpi .sgt (BitVec.ofNat 32 n.val) 0#32)) (0#32 : BitVec 32)) = 1#1) ↔ 1 ≤ n.val := by decide

/-- A start is below the word's range. -/
theorem off_val : ∀ n : Fin 8, (BitVec.ofNat 32 (start n.val)).toNat = start n.val := by decide

/-- The third branch runs exactly at the later row blocks. -/
theorem later (i : grid0.Coords) : k0_cond3 i = 1#1 ↔ 1 ≤ (i 0).val := cond3_pos (i 0)

/-- Where the later columns are loaded from. -/
theorem off1_val (i : grid0.Coords) (h : 1 ≤ (i 0).val) : k0_off1 i 1 = start (i 0).val := by
  have e : k0_off1 i 1 = (Scalar.minsi (1536#32) (Scalar.maxsi (256#32) (Scalar.subi (Scalar.muli (BitVec.ofNat 32 (i 0).val) 256#32) 128#32))).toNat := rfl
  rw [e, start_word (i 0), if_neg (by omega)]
  exact off_val (i 0)

/-- The mask over the gathered columns. -/
theorem pay10_apply (i : grid0.Coords) (h1 : 1 ≤ (i 0).val) (w : IVec S256x1 32) (r : Fin 256) (n : ℕ) (hn : n < 2048) (hw : w (ix2 r 0) = BitVec.ofNat 32 n)
    (j : Fin 768) : k0_pay10 (BitVec.ofNat 32 (i 0).val) w (ix2 r j) = BitVec.ofBool (decide (near n (col (i 0).val j).val)) := by
  have hc : (if h : j.val < 256 then BitVec.ofNat 32 j.val else IntOp.addi (BitVec.ofNat 32 (start (i 0).val)) (BitVec.ofNat 32 (j.val - 256)))
      = BitVec.ofNat 32 (col (i 0).val j).val := by
    rw [col_val]
    split
    · rfl
    · exact (BitVec.ofNat_add _ _).symm
  have hs := start_word (i 0)
  rw [if_neg (by omega)] at hs
  rw [← mask_word hn (col (i 0).val j).isLt, ← hc, ← hw, ← hs]
  pointwise [k0_pay10]

/-! The two bodies. -/

/-- A window of a block's rows, read at an index. -/
theorem ld_apply {n : ℕ} (k : Vec Ideal S1x2048x128 .bf16) (off : Fin 3 → ℕ) (inb : ∀ a, off a + (⟨3, ![1, n, 128]⟩ : Shape).size a ≤ S1x2048x128.size a)
    (h0 : off 0 = 0) (h2 : off 2 = 0) (j : Fin n) (d : Fin 128) (j' : Fin 2048) (hj : j'.val = off 1 + j.val) :
    View.ld k (Rect.unit (s := S1x2048x128) off (⟨3, ![1, n, 128]⟩ : Shape).size inb) (ix3 0 j d) = k (ix3 0 j' d) := by
  refine congrArg k (funext fun a => Fin.ext ?_)
  match a with
  | ⟨0, _⟩ => show off 0 + 0 = 0; omega
  | ⟨1, _⟩ => show off 1 + 1 * j.val = j'.val; omega
  | ⟨2, _⟩ => show off 2 + 1 * d.val = d.val; omega

/-- A choice between two sums is a sum of choices. -/
theorem dite_sum {n : ℕ} (p : Prop) [Decidable p] (f : p → Fin n → EReal) (g : ¬p → Fin n → EReal) :
    (∑ d, if h : p then f h d else g h d) = if h : p then ∑ d, f h d else ∑ d, g h d := by
  split <;> rfl

/-- The gathered rows of a block of keys or values. -/
theorem gather_apply (i : grid0.Coords) (e3 : k0_cond3 i = 1#1) (k : Vec Ideal S1x2048x128 .bf16) (j : Fin 768) (d : Fin 128) :
    (if h : j.val < 256 then View.ld k (Rect.unit (s := S1x2048x128) ![0, 0, 0] S1x256x128.size inb_S1x2048x128_S1x256x128_0_0_0) (ix3 0 ⟨j.val, h⟩ d)
      else View.ld k (Rect.unit (s := S1x2048x128) (k0_off1 i) S1x512x128.size (k0_off1_inb i e3)) (ix3 0 ⟨j.val - 256, by omega⟩ d))
      = k (ix3 0 (col (i 0).val j) d) := by
  split
  · rename_i h
    exact ld_apply (n := 256) k _ _ rfl rfl ⟨j.val, h⟩ d _ (by rw [col_val, if_pos h]; show j.val = 0 + j.val; omega)
  · rename_i h
    exact ld_apply (n := 512) k _ _ rfl rfl ⟨j.val - 256, by omega⟩ d _ (by rw [col_val, if_neg h, off1_val i ((later i).mp e3)])

variable (i : grid0.Coords) (x : Vec Ideal S256x1024 .bf16) (wq : Vec Ideal S1024x128 .bf16) (k v : Vec Ideal S1x2048x128 .bf16)
  (wo : Vec Ideal S128x1024 .bf16) (o : Vec Ideal S256x1024 .f32)

/-- The share a block's head adds at row `r`, entry `n`. -/
abbrev headAt (i : grid0.Coords) (x : Vec Ideal S256x1024 .bf16) (wq : Vec Ideal S1024x128 .bf16) (k v : Vec Ideal S1x2048x128 .bf16)
    (wo : Vec Ideal S128x1024 .bf16) (r : Fin 256) (n : Fin 1024) : EReal :=
  head (fun e => x (ix2 r e)) (fun e d => wq (ix2 e d)) (fun j d => k (ix3 0 j d)) (fun j d => v (ix3 0 j d)) (fun d => wo (ix2 d n)) (256 * (i 0).val + r.val)

/-- A block's rows are among the 2048. -/
theorem row_lt (r : Fin 256) : 256 * (i 0).val + r.val < 2048 := by have h0 : (i 0).val < 8 := (i 0).isLt; omega

/-- Over all columns, the body adds the head's share. -/
theorem addAll_apply (r : Fin 256) (n : Fin 1024) : addAll i x wq k v wo o (ix2 r n) = o (ix2 r n) + headAt i x wq k v wo r n := by
  unfold addAll
  rw [pay4_apply]
  refine congrArg₂ (· + ·) rfl (Finset.sum_congr rfl fun d _ => congrArg₂ (· * ·) ?_ rfl)
  rw [pay7_apply _ _ _ _ _ _ _ (row_lt i r) (pay3_apply i r)]
  simp only [pay2_apply]
  rfl

/-- Over the gathered columns only, the body adds the head's share all the same, where the scores' operands are finite. -/
theorem addNear_apply (e3 : k0_cond3 i = 1#1) (r : Fin 256) (n : Fin 1024) (hx : ∀ r e, Finite (x (ix2 r e))) (hw : ∀ e d, Finite (wq (ix2 e d)))
    (hk : ∀ j d, Finite (k (ix3 0 j d))) : addNear i e3 x wq k v wo o (ix2 r n) = o (ix2 r n) + headAt i x wq k v wo r n := by
  have h1 := (later i).mp e3
  have h8 : (i 0).val < 8 := (i 0).isLt
  unfold addNear
  rw [pay5_apply]
  refine congrArg₂ (· + ·) rfl (Finset.sum_congr rfl fun d _ => congrArg₂ (· * ·) ?_ rfl)
  have fin := score_finite (x := fun e => x (ix2 r e)) (wq := fun e d => wq (ix2 e d)) (k := fun j d => k (ix3 0 j d)) (hx r) hw hk (256 * (i 0).val + r.val)
  have own : near (256 * (i 0).val + r.val) (256 * (i 0).val + r.val) := Or.inl ⟨by omega, by omega⟩
  obtain ⟨k₀, hk₀⟩ := near_col h1 h8 r.isLt ⟨_, row_lt i r⟩ own
  refine Eq.trans ?_ (mix_restrict (score (fun e => x (ix2 r e)) (fun e d => wq (ix2 e d)) (fun j d => k (ix3 0 j d)) (256 * (i 0).val + r.val))
    (fun j => v (ix3 0 j d)) (col (i 0).val) (col_inj _) (fun j hj => if_neg fun h => absurd (near_col h1 h8 r.isLt j h) fun ⟨k, hk⟩ => hj k hk)
    (fun j => by
      by_cases h : near (256 * (i 0).val + r.val) j.val
      · obtain ⟨a, ha⟩ := fin j h
        rw [ha]; exact EReal.coe_ne_top a
      · unfold score; rw [if_neg h]; exact bot_ne_top) k₀ (by
      obtain ⟨a, ha⟩ := fin (col (i 0).val k₀) (by rw [hk₀]; exact own)
      rw [ha]; exact EReal.coe_ne_bot a)).symm
  congr 1
  · funext j
    rw [pay10_apply i h1 _ r _ (row_lt i r) (pay3_apply i r), select_ofBool, pay11_apply]
    unfold score
    refine if_congr Iff.rfl (congrArg₂ (· * ·) ?_ rfl) rfl
    rw [← dite_sum]
    refine Finset.sum_congr rfl fun d _ => ?_
    rw [pay2_apply, ← mul_dite, gather_apply i e3 k j d]
  · funext j
    exact (pay9_apply _ _ j d).trans (gather_apply i e3 v j d)

end Cert.KernelIdeal.Attend

end
-- ==== Proof.Share.lean ====
/-
  What the attention region leaves on a device, in exact arithmetic: entry (i, n) of its result is the sum of the eight heads' shares.
-/
module

public import proofs.«01_k».proof.Proof.Blocks
public import proofs.«01_k».proof.Proof.Region0
public import Idealize.ShloMosaic.Lib.Pipeline.ValueKit.Geometry

@[expose] public section

noncomputable section

namespace Cert.KernelIdeal.Attend

open Idealize.ShloMosaic Idealize.SL.Sem
open Idealize.ShloMosaic.TcCoe
open Cert.KernelIdeal Cert.KernelIdeal.Gen Cert.Spec

/-- The body at a point adds its head's share to what it found, or to zero at the first head. -/
theorem step_apply (i : grid0.Coords) (x : Vec Ideal S256x1024 .bf16) (wq : Vec Ideal S1024x128 .bf16) (k v : Vec Ideal S1x2048x128 .bf16)
    (wo : Vec Ideal S128x1024 .bf16) (o : Vec Ideal S256x1024 .f32) (r : Fin 256) (n : Fin 1024) (hx : ∀ r e, Finite (x (ix2 r e)))
    (hw : ∀ e d, Finite (wq (ix2 e d))) (hk : ∀ j d, Finite (k (ix3 0 j d))) :
    step i x wq k v wo o (ix2 r n) = opening i o (ix2 r n) + headAt i x wq k v wo r n := by
  unfold step
  split
  · exact addNear_apply i x wq k v wo _ _ r n hx hw hk
  · exact addAll_apply i x wq k v wo _ r n

/-- A point's row block and head. -/
theorem coords_val : ∀ t : Fin grid0.N, (grid0.coords t 0).val = t.val / 8 ∧ (grid0.coords t 1).val = t.val % 8 := by decide +kernel

/-- Which block each window shows at a point. -/
theorem index_x : ∀ t : Fin cfg0.N, win0_0.index t = ![(grid0.coords t 0).val, 0] := (by decide +kernel : ∀ t : Fin grid0.N, _)
@[inherit_doc index_x] theorem index_wq : ∀ t : Fin cfg0.N, win0_1.index t = ![0, (grid0.coords t 1).val] := (by decide +kernel : ∀ t : Fin grid0.N, _)
@[inherit_doc index_x] theorem index_k : ∀ t : Fin cfg0.N, win0_2.index t = ![(grid0.coords t 1).val, 0, 0] := (by decide +kernel : ∀ t : Fin grid0.N, _)
@[inherit_doc index_x] theorem index_v : ∀ t : Fin cfg0.N, win0_3.index t = ![(grid0.coords t 1).val, 0, 0] := (by decide +kernel : ∀ t : Fin grid0.N, _)
@[inherit_doc index_x] theorem index_wo : ∀ t : Fin cfg0.N, win0_4.index t = ![(grid0.coords t 1).val, 0] := (by decide +kernel : ∀ t : Fin grid0.N, _)
@[inherit_doc index_x] theorem index_o : ∀ t : Fin cfg0.N, win0_5.index t = ![(grid0.coords t 0).val, 0] := (by decide +kernel : ∀ t : Fin grid0.N, _)

variable (V : Dev nD → Valuation τ sig (Elt Ideal))

/-- Row r of row block q, and entry d of head h, among all of a device's. -/
abbrev rowOf (q : Fin 8) (r : Fin 256) : Fin 2048 := ⟨256 * q.val + r.val, by omega⟩
@[inherit_doc rowOf] abbrev lane (h : Fin 8) (d : Fin 128) : Fin 1024 := ⟨128 * h.val + d.val, by omega⟩

/-- The five inputs' blocks at a point, at coordinates. -/
theorem xAt_apply (c : Dev nD) (t : Fin cfg0.N) (r : Fin 256) (e : Fin 1024) :
    xAt V c t (ix2 r e) = V c main_v5 (ix2 (rowOf (grid0.coords t 0) r) e) := by
  unfold xAt
  blk_simp
  congr 1
  blk_ext [index_x]
@[inherit_doc xAt_apply] theorem wqAt_apply (c : Dev nD) (t : Fin cfg0.N) (e : Fin 1024) (d : Fin 128) :
    wqAt V c t (ix2 e d) = V c main_v10 (ix2 e (lane (grid0.coords t 1) d)) := by
  unfold wqAt
  blk_simp
  congr 1
  blk_ext [index_wq]
@[inherit_doc xAt_apply] theorem kAt_apply (c : Dev nD) (t : Fin cfg0.N) (j : Fin 2048) (d : Fin 128) :
    kAt V c t (ix3 0 j d) = V c main_v17 (ix3 (grid0.coords t 1) j d) := by
  unfold kAt
  blk_simp
  congr 1
  blk_ext [index_k]
@[inherit_doc xAt_apply] theorem vAt_apply (c : Dev nD) (t : Fin cfg0.N) (j : Fin 2048) (d : Fin 128) :
    vAt V c t (ix3 0 j d) = V c main_v19 (ix3 (grid0.coords t 1) j d) := by
  unfold vAt
  blk_simp
  congr 1
  blk_ext [index_v]
@[inherit_doc xAt_apply] theorem woAt_apply (c : Dev nD) (t : Fin cfg0.N) (d : Fin 128) (n : Fin 1024) :
    woAt V c t (ix2 d n) = V c main_v15 (ix2 (lane (grid0.coords t 1) d) n) := by
  unfold woAt
  blk_simp
  congr 1
  blk_ext [index_wo]

/-- The share of device c's head h at row i, entry n. -/
def part (c : Dev nD) (h : Fin 8) (i : Fin 2048) (n : Fin 1024) : EReal :=
  head (fun e => V c main_v5 (ix2 i e)) (fun e d => V c main_v10 (ix2 e (lane h d))) (fun j d => V c main_v17 (ix3 h j d))
    (fun j d => V c main_v19 (ix3 h j d)) (fun d => V c main_v15 (ix2 (lane h d) n)) i.val

/-- The device's rows, query weights and keys are finite. -/
structure Tame (c : Dev nD) : Prop where
  x : ∀ i e, Finite (V c main_v5 (ix2 i e))
  wq : ∀ e d, Finite (V c main_v10 (ix2 e d))
  k : ∀ h j d, Finite (V c main_v17 (ix3 h j d))

/-- The body at a point, on that point's blocks. -/
theorem stepAt_apply (c : Dev nD) (tame : Tame V c) (t : Fin cfg0.N) (o : Vec Ideal S256x1024 .f32) (r : Fin 256) (n : Fin 1024) :
    stepAt V c t o (ix2 r n) = opening (grid0.coords t) o (ix2 r n) + part V c (grid0.coords t 1) (rowOf (grid0.coords t 0) r) n := by
  unfold stepAt
  rw [step_apply _ _ _ _ _ _ _ r n (fun r e => by rw [xAt_apply]; exact tame.x _ _) (fun e d => by rw [wqAt_apply]; exact tame.wq _ _)
    (fun j d => by rw [kAt_apply]; exact tame.k _ _ _)]
  unfold headAt part
  simp only [xAt_apply, wqAt_apply, kAt_apply, vAt_apply, woAt_apply]

/-- At the first head the sum starts from zero. -/
theorem opening_first (i : grid0.Coords) (o : Vec Ideal S256x1024 .f32) (h : k0_cond1 i = 1#1) (r : Fin 256) (n : Fin 1024) : opening i o (ix2 r n) = 0 := by
  unfold opening
  rw [if_pos h]
  unfold k0_pay1
  pointwise [k0_pay1]

/-- What a point leaves is the body over something. -/
theorem accAt_step (c : Dev nD) : ∀ (a : ℕ) (l : a < cfg0.N), ∃ o, accAt V c a l = stepAt V c ⟨a, l⟩ o
  | 0, _ => ⟨_, rfl⟩
  | _ + 1, _ => ⟨_, rfl⟩

/-- After head h of row block q the staging buffer holds the shares of the heads so far. -/
theorem accAt_apply (c : Dev nD) (tame : Tame V c) (q : Fin 8) (r : Fin 256) (n : Fin 1024) : ∀ (h : ℕ) (_ : h < 8) (l : 8 * q.val + h < cfg0.N),
    accAt V c (8 * q.val + h) l (ix2 r n) = ∑ h' ∈ Finset.range (h + 1), part V c (Fin.ofNat 8 h') (rowOf q r) n := by
  have one : ∀ (h : ℕ) (_ : h < 8) (l : 8 * q.val + h < cfg0.N) (o : Vec Ideal S256x1024 .f32),
      stepAt V c ⟨8 * q.val + h, l⟩ o (ix2 r n) = opening (grid0.coords ⟨8 * q.val + h, l⟩) o (ix2 r n) + part V c (Fin.ofNat 8 h) (rowOf q r) n := by
    intro h hh l o
    rw [stepAt_apply V c tame]
    have e := coords_val ⟨8 * q.val + h, l⟩
    dsimp only at e
    have e0 : grid0.coords ⟨8 * q.val + h, l⟩ 0 = q := Fin.ext (e.1.trans (by omega))
    have e1 : grid0.coords ⟨8 * q.val + h, l⟩ 1 = Fin.ofNat 8 h := Fin.ext (e.2.trans (by show _ = h % 8; omega))
    rw [e0, e1]
  intro h
  induction h with
  | zero =>
    intro hh l
    obtain ⟨o, e⟩ := accAt_step V c _ l
    rw [e, one 0 hh l, opening_first _ _ ((first_head _).mpr (by dsimp only; omega)), zero_add, Finset.sum_range_one]
  | succ h ih =>
    intro hh l
    show stepAt V c ⟨8 * q.val + h + 1, l⟩ (accAt V c (8 * q.val + h) (Nat.lt_of_succ_lt l)) (ix2 r n) = _
    rw [Finset.sum_range_succ, ← ih (by omega) (Nat.lt_of_succ_lt l)]
    refine (one (h + 1) hh l _).trans (congrArg₂ (· + ·) ?_ rfl)
    unfold opening
    rw [if_neg (fun h1 => by have := (first_head _).mp h1; dsimp only at this; omega)]

/-- Entry (i, n) of the region's result is the sum of the eight heads' shares. -/
theorem shareOf_apply (c : Dev nD) (tame : Tame V c) (i : Fin 2048) (n : Fin 1024) : shareOf V c (ix2 i n) = ∑ h : Fin 8, part V c h i n := by
  have key : shareOf V c = fun p => ∑ h : Fin 8, part V c h (p 0) (p 1) := by
    unfold shareOf
    refine (dat0 V c).arrAt_eq_of_covers 5 _ (by decide +kernel) fun t hf y => ?_
    have hN : t.val < 64 := t.isLt
    have h7 := (flush0_5 t).mp hf
    have e := coords_val t
    have l : 8 * (t.val / 8) + 7 < cfg0.N := by show _ < 64; omega
    have last : ∀ (a : ℕ) (l : a < cfg0.N), a = t.val → accAt V c t.val t.isLt = accAt V c a l := fun a l h => by subst h; rfl
    let q : Fin 8 := ⟨t.val / 8, by omega⟩
    have hy : y = ix2 (y 0) (y 1) := (ix2_eta y).symm
    have h0 : (((cfg0.win 5).blk t).view.emb y 0 : Fin 2048) = rowOf q (y 0) := by
      refine Fin.ext ?_
      show _ = 256 * (t.val / 8) + (y 0).val
      blk_simp [index_o]
      have e0 := e.1
      show ((grid0.coords t 0).val * 256 + (y 0).val : ℕ) = _
      omega
    have h1 : (((cfg0.win 5).blk t).view.emb y 1 : Fin 1024) = y 1 := by
      refine Fin.ext ?_
      blk_simp [index_o]
    show accAt V c t.val t.isLt y = ∑ h : Fin 8, part V c h (((cfg0.win 5).blk t).view.emb y 0 : Fin 2048) (((cfg0.win 5).blk t).view.emb y 1 : Fin 1024)
    rw [h0, h1, last (8 * q.val + 7) l (by dsimp only [q]; omega), hy]
    refine (accAt_apply V c tame q (y 0) (y 1) 7 (by omega) l).trans ?_
    rw [Finset.sum_range]
    exact Finset.sum_congr rfl fun h _ => by rw [Fin.ofNat_val_eq_self]; rfl
  rw [key]
  rfl

end Cert.KernelIdeal.Attend

end
-- ==== Proof.Total.lean ====
/-
  The all-reduce in exact arithmetic: after the six legs every device holds, at every place, the sum of all the devices' values.
-/
module

public import proofs.«01_k».proof.Proof.Halving

@[expose] public section

noncomputable section

namespace Cert.KernelIdeal.Halving

open Idealize.ShloMosaic Idealize.SL.Sem
open Cert.KernelIdeal Cert.KernelIdeal.Gen

/-- How often device d's value counts in what device c holds before leg n in the b-th block of 256 rows. -/
def parts : ℕ → Dev nD → ℕ → Dev nD → ℕ
  | 0 => fun c _ d => if c = d then 1 else 0
  | n + 1 => fun c b d =>
    if keepLo (Fin.ofNat 6 n) c ≤ 256 * b ∧ 256 * b < keepLo (Fin.ofNat 6 n) c + rows (Fin.ofNat 6 n) then
      (if n < 3 then parts n c b d else 0) + parts n (mate (Fin.ofNat 6 n) c) b d
    else parts n c b d

/-- A leg's rows start and end at multiples of 256. -/
theorem keepLo_dvd (s : Fin 6) (c : Dev nD) : keepLo s c % 256 = 0 ∧ rows s % 256 = 0 := by revert s c; decide

/-- A leg's rows are whole blocks of 256. -/
theorem kept_iff (s : Fin 6) (c : Dev nD) (r : ℕ) :
    (keepLo s c ≤ r ∧ r < keepLo s c + rows s) ↔ (keepLo s c ≤ 256 * (r / 256) ∧ 256 * (r / 256) < keepLo s c + rows s) := by
  have h := keepLo_dvd s c
  omega

/-- What a device holds before leg n is the devices' values, each as often as it counts. -/
theorem held_parts (X : Dev nD → Arr Ideal) (i : S2048x1024.Idx) : ∀ (n : ℕ) (_ : n ≤ 6) (c : Dev nD),
    held X n c i = ∑ d, parts n c ((i 0).val / 256) d • X d i
  | 0, _, c => by
    show X c i = _
    simp [parts, ite_smul]
  | n + 1, hn, c => by
    have ih := held_parts X i n (by omega)
    have hs : (Fin.ofNat 6 n).val = n := Nat.mod_eq_of_lt (by omega)
    show leg (Fin.ofNat 6 n) (held X n) c i = _
    unfold leg
    by_cases h : keepLo (Fin.ofNat 6 n) c ≤ (i 0).val ∧ (i 0).val < keepLo (Fin.ofNat 6 n) c + rows (Fin.ofNat 6 n)
    · rw [if_pos h]
      simp only [parts, if_pos ((kept_iff _ _ _).mp h), add_smul, Finset.sum_add_distrib]
      rw [← ih]
      unfold put
      rw [hs]
      by_cases h3 : n < 3
      · simp only [if_pos h3]
        rw [← ih]
        rfl
      · simp only [if_neg h3, zero_smul, Finset.sum_const_zero, zero_add]
        rfl
    · rw [if_neg h]
      simp only [parts, if_neg (fun h' => h ((kept_iff _ _ _).mpr h'))]
      exact ih c

/-- After the six legs every device's value counts once. -/
theorem parts_all : ∀ (c : Dev nD) (b : Fin 8) (d : Dev nD), parts 6 c b.val d = 1 := by decide +kernel

/-- After the six legs each device holds the sum over the devices. -/
theorem held_total (X : Dev nD → Arr Ideal) (c : Dev nD) (i : S2048x1024.Idx) : held X 6 c i = ∑ d, X d i := by
  have h : (i 0).val < 2048 := (i 0).isLt
  rw [held_parts X i 6 (le_refl _) c]
  exact Finset.sum_congr rfl fun d _ => by rw [parts_all c ⟨(i 0).val / 256, by omega⟩ d, one_smul]

end Cert.KernelIdeal.Halving

end
-- ==== Proof.HostReads.lean ====
/-
  What the host's first stretch hands to the attention region, and what its last one makes of the result, at coordinates.
-/
module

public import proofs.«01_k».proof.Proof.Run
public import Idealize.ShloMosaic.Lib.StableHlo.ReadAt
public import Idealize.ShloMosaic.Lib.Pointwise
public import Idealize.ShloMosaic.Lib.DynamicIndex
public import Idealize.ShloMosaic.Lib.WordCmp

@[expose] public section

noncomputable section

namespace Cert.KernelIdeal.Run

open Idealize.ShloMosaic
open Idealize.ShloMosaic.TcCoe
open Idealize.SL.Sem
open Cert.KernelIdeal Cert.KernelIdeal.Gen

variable (m : (ℓ : Loc nD τ sig) → Buf (Elt Ideal) ℓ) (c : Dev nD)

/-- An argument's array on a device. -/
abbrev argX : Vec Ideal S1x2048x1024 .bf16 := m ((c : Thread nD τ).loc main_arg0)
@[inherit_doc argX] abbrev argWq : Vec Ideal S1024x8192 .bf16 := m ((c : Thread nD τ).loc main_arg1)
@[inherit_doc argX] abbrev argK : Vec Ideal S1x2048x8x128 .bf16 := m ((c : Thread nD τ).loc main_arg2)
@[inherit_doc argX] abbrev argV : Vec Ideal S1x2048x8x128 .bf16 := m ((c : Thread nD τ).loc main_arg3)
@[inherit_doc argX] abbrev argWo : Vec Ideal S8192x1024 .bf16 := m ((c : Thread nD τ).loc main_arg4)

/-- The attention's rows are the argument's. -/
theorem rows_at (i : Fin 2048) (e : Fin 1024) : (V1 m c main_v5 : Vec Ideal S2048x1024 .bf16) (ix2 i e) = argX m c (ix3 0 i e) := by
  unfold V1
  after_reads_at

/-- The attention's keys are the argument's, heads first. -/
theorem keys_at (h : Fin 8) (j : Fin 2048) (d : Fin 128) : (V1 m c main_v17 : Vec Ideal S8x2048x128 .bf16) (ix3 h j d) = argK m c (ix4 0 j h d) := by
  unfold V1
  after_reads_at

/-- The attention's values are the argument's, heads first. -/
theorem values_at (h : Fin 8) (j : Fin 2048) (d : Fin 128) : (V1 m c main_v19 : Vec Ideal S8x2048x128 .bf16) (ix3 h j d) = argV m c (ix4 0 j h d) := by
  unfold V1
  after_reads_at

/-- The word of a device's first query column and output row, as the host computes it. -/
def startOf (c : Dev nD) : BitVec 32 :=
  let p : BitVec 32 := IntOp.muli (Host.remui (Host.divui (constantI S_ 32 (Dev.word c)) (constantI S_ 32 1#32)) (constantI S_ 32 8#32) (Shape.Idx.first h_S_)) 1024#32
  Scalar.select (IntOp.cmpi .slt p 0#32) (IntOp.addi p 8192#32) p

/-- Device c's first column and row is 1024 c. -/
theorem startOf_val : ∀ c : Dev nD, (startOf c).toInt = ((c.val * 1024 : ℕ) : ℤ) := by decide +kernel

/-- Where the query weights' columns are cut. -/
theorem queryStart : (StableHlo.upto (hostOps0 c) (V0 m c) 15 (Proc.tc.devRef main_v9) : IVec S_ 32) (Shape.Idx.first h_S_) = startOf c := by
  after_reads_at
  rfl
/-- The query weights' rows are cut at zero. -/
theorem queryZero : (StableHlo.upto (hostOps0 c) (V0 m c) 15 (Proc.tc.devRef main_c_4) : IVec S_ 32) (Shape.Idx.first h_S_) = 0#32 := by
  after_reads_at
/-- Where the output weights' rows are cut. -/
theorem outputStart : (StableHlo.upto (hostOps0 c) (V0 m c) 24 (Proc.tc.devRef main_v14) : IVec S_ 32) (Shape.Idx.first h_S_) = startOf c := by
  after_reads_at
  rfl
/-- The output weights' columns are cut at zero. -/
theorem outputZero : (StableHlo.upto (hostOps0 c) (V0 m c) 24 (Proc.tc.devRef main_c_8) : IVec S_ 32) (Shape.Idx.first h_S_) = 0#32 := by
  after_reads_at

/-- A device's query weights are the columns from its own first one on. -/
theorem queries_at (e : Fin 1024) (d : Fin 1024) :
    (V1 m c main_v10 : Vec Ideal S1024x1024 .bf16) (ix2 e d) = argWq m c (ix2 e ⟨c.val * 1024 + d.val, by have : c.val < 8 := c.isLt; omega⟩) := by
  have hc : c.val < 8 := c.isLt
  unfold V1
  after_reads_at
  refine congrArg (argWq m c) (congrArg₂ ix2 (Fin.ext ?_) (Fin.ext ?_))
  · exact (congrArg (· + e.val) (Host.clampedStart_of_le _ _ _ 0 ((congrArg BitVec.toInt (queryZero m c)).trans rfl) (by decide))).trans (Nat.zero_add _)
  · exact congrArg (· + d.val) (Host.clampedStart_of_le _ _ _ (c.val * 1024) ((congrArg BitVec.toInt (queryStart m c)).trans (startOf_val c)) (by show c.val * 1024 + 1024 ≤ 8192; omega))

/-- A device's output weights are the rows from its own first one on. -/
theorem outputs_at (d : Fin 1024) (n : Fin 1024) :
    (V1 m c main_v15 : Vec Ideal S1024x1024 .bf16) (ix2 d n) = argWo m c (ix2 ⟨c.val * 1024 + d.val, by have : c.val < 8 := c.isLt; omega⟩ n) := by
  have hc : c.val < 8 := c.isLt
  unfold V1
  after_reads_at
  refine congrArg (argWo m c) (congrArg₂ ix2 (Fin.ext ?_) (Fin.ext ?_))
  · exact congrArg (· + d.val) (Host.clampedStart_of_le _ _ _ (c.val * 1024) ((congrArg BitVec.toInt (outputStart m c)).trans (startOf_val c)) (by show c.val * 1024 + 1024 ≤ 8192; omega))
  · exact (congrArg (· + n.val) (Host.clampedStart_of_le _ _ _ 0 ((congrArg BitVec.toInt (outputZero m c)).trans rfl) (by decide))).trans (Nat.zero_add _)

/-- The result is the all-reduce's, with an axis of length one put before. -/
theorem result_at (i : Fin 2048) (n : Fin 1024) :
    (V4 m (outs m) c main_v22 : Vec Ideal S1x2048x1024 .f32) (ix3 0 i n) = (V3 m (outs m) c main_v21 : Vec Ideal S2048x1024 .f32) (ix2 i n) := by
  unfold V4
  after_reads_at

end Cert.KernelIdeal.Run

end
-- ==== Proof.RefRead.lean ====
/-
  The reference's composed term read at an index: entry `(i, n)` is the sum over the 64 heads of each head's share.
-/
module

public import proofs.«01_k».proof.Proof.Gen.ReferenceIdeal.Run
public import proofs.«01_k».proof.Proof.Words
public import Idealize.ShloMosaic.Lib.Pointwise

@[expose] public section

noncomputable section

namespace Cert.ReferenceIdeal.Value

open Idealize.ShloMosaic Idealize.ShloMosaic.TcCoe
open Cert.ReferenceIdeal Cert.ReferenceIdeal.Gen Cert.Spec
open scoped BigOperators

/-! The composed term cut at its intermediate tensors. -/

/-- The mask over rows and columns. -/
def maskT : IVec S2048x2048 1 :=
  ori (cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32))) (ori (broadcastInDim S2048x2048 ![0, 1] bcast_S1x2048_S2048x2048_0_1 (cmpi .slt (broadcastInDim S1x2048 ![1] bcast_S2048_S1x2048_1 (iotaInDim S2048 32 0)) (broadcastInDim S1x2048 ![] bcast_S_S1x2048 (constantI S_ 32 32#32)))) (broadcastInDim S2048x2048 ![0, 1] bcast_S2048x1_S2048x2048_0_1 (cmpi .slt (broadcastInDim S2048x1 ![0] bcast_S2048_S2048x1_0 (iotaInDim S2048 32 0)) (broadcastInDim S2048x1 ![] bcast_S_S2048x1 (constantI S_ 32 32#32)))))
/-- Whether a row attends to any column. -/
def keepT (M : IVec S2048x2048 1) : IVec S2048 1 := Host.reduce IntOp.ori M (constantI S_ 1 0#1) reducesTo_S2048x2048_S2048_d1 h_S_
/-- The queries, by head. -/
def queryT (x : FVec Ideal S1x2048x1024 .bf16) (wq : FVec Ideal S1024x8192 .bf16) : FVec Ideal S1x2048x64x128 .f32 :=
  shapeCast _ (Host.dotGeneral dot_S1x2048x1024_S1024x8192_S1x2048x8192_2_0_01_1_n_n none (extf .f32 x bitsLt_bf16_f32) (extf .f32 wq bitsLt_bf16_f32)) shapeCasts_S1x2048x8192_S1x2048x64x128
/-- The masked scores. -/
def scoreT (M : IVec S2048x2048 1) (q : FVec Ideal S1x2048x64x128 .f32) (k : FVec Ideal S1x2048x64x128 .bf16) : FVec Ideal S1x64x2048x2048 .f32 :=
  select (broadcastInDim S1x64x2048x2048 ![0, 1, 2, 3] bcast_S1x1x2048x2048_S1x64x2048x2048_0_1_2_3 (broadcastInDim S1x1x2048x2048 ![2, 3] bcast_S2048x2048_S1x1x2048x2048_2_3 M)) (mulf (Host.dotGeneral dot_S1x2048x64x128_S1x2048x64x128_S1x64x2048x2048_3_3_1_1_02_02 none q (extf .f32 k bitsLt_bf16_f32)) (broadcastInDim S1x64x2048x2048 ![] bcast_S_S1x64x2048x2048 (constant S_ .f32 0x3DB504F3#32))) (broadcastInDim S1x64x2048x2048 ![] bcast_S_S1x64x2048x2048 (id (constant S_ .f32 0xFF800000#32)))
/-- The exponentials of the scores less their row's largest. -/
def expT (s : FVec Ideal S1x64x2048x2048 .f32) : FVec Ideal S1x64x2048x2048 .f32 :=
  Host.exp (subf s (broadcastInDim S1x64x2048x2048 ![0, 1, 2, 3] bcast_S1x64x2048x1_S1x64x2048x2048_0_1_2_3 (broadcastInDim S1x64x2048x1 ![0, 1, 2] bcast_S1x64x2048_S1x64x2048x1_0_1_2 (Host.reduce FloatOps.maximumf s (constant S_ .f32 0xFF800000#32) reducesTo_S1x64x2048x2048_S1x64x2048_d3 h_S_))))
/-- The weights. -/
def weightT (K : IVec S2048 1) (p : FVec Ideal S1x64x2048x2048 .f32) : FVec Ideal S1x64x2048x2048 .f32 :=
  select (broadcastInDim S1x64x2048x2048 ![0, 1, 2, 3] bcast_S1x1x2048x1_S1x64x2048x2048_0_1_2_3 (broadcastInDim S1x1x2048x1 ![2] bcast_S2048_S1x1x2048x1_2 K)) (Host.divf p (broadcastInDim S1x64x2048x2048 ![0, 1, 2, 3] bcast_S1x64x2048x1_S1x64x2048x2048_0_1_2_3 (select (broadcastInDim S1x64x2048x1 ![0, 1, 2, 3] bcast_S1x1x2048x1_S1x64x2048x1_0_1_2_3 (broadcastInDim S1x1x2048x1 ![2] bcast_S2048_S1x1x2048x1_2 K)) (broadcastInDim S1x64x2048x1 ![0, 1, 2] bcast_S1x64x2048_S1x64x2048x1_0_1_2 (Host.reduceAdd p (constant S_ .f32 0x00000000#32) reducesTo_S1x64x2048x2048_S1x64x2048_d3 h_S_)) (broadcastInDim S1x64x2048x1 ![] bcast_S_S1x64x2048x1 (id (constant S_ .f32 0x3F800000#32)))))) (broadcastInDim S1x64x2048x2048 ![] bcast_S_S1x64x2048x2048 (id (constant S_ .f32 0x00000000#32)))
/-- The heads' mixes side by side. -/
def mixT (v : FVec Ideal S1x2048x64x128 .bf16) (w : FVec Ideal S1x64x2048x2048 .f32) : FVec Ideal S1x2048x8192 .f32 :=
  shapeCast _ (transpose S1x2048x64x128 [0, 3, 1, 2] (Host.dotGeneral dot_S1x2048x64x128_S1x64x2048x2048_S1x64x128x2048_1_3_3_2_02_01 none (extf .f32 v bitsLt_bf16_f32) w) transposes_S1x64x128x2048_S1x2048x64x128_0_3_1_2) shapeCasts_S1x2048x64x128_S1x2048x8192
/-- The output projection. -/
def outT (o : FVec Ideal S1x2048x8192 .f32) (wo : FVec Ideal S8192x1024 .bf16) : FVec Ideal S1x2048x1024 .f32 :=
  Host.dotGeneral dot_S1x2048x8192_S8192x1024_S1x2048x1024_2_0_01_1_n_n none o (extf .f32 wo bitsLt_bf16_f32)

/-- The mask tells whether a row attends to a column. -/
theorem maskT_apply (i j : Fin 2048) : maskT (ix2 i j) = BitVec.ofBool (decide (near i.val j.val)) := by
  rw [← mask_word i.isLt j.isLt]
  pointwise [maskT]

/-- A query's entry. -/
theorem queryT_apply (x : FVec Ideal S1x2048x1024 .bf16) (wq : FVec Ideal S1024x8192 .bf16) (i : Fin 2048) (h : Fin 64) (d : Fin 128) :
    queryT x wq (ix4 0 i h d) = ∑ e : Fin 1024, x (ix3 0 i e) * wq (ix2 e ⟨h.val * 128 + d.val, by omega⟩) := by
  pointwise [queryT, dot_S1x2048x1024_S1024x8192_S1x2048x8192_2_0_01_1_n_n]

/-- A masked score. -/
theorem scoreT_apply (M : IVec S2048x2048 1) (q : FVec Ideal S1x2048x64x128 .f32) (k : FVec Ideal S1x2048x64x128 .bf16) (h : Fin 64) (i j : Fin 2048) :
    scoreT M q k (ix4 0 h i j) = Scalar.select (M (ix2 i j)) ((∑ d : Fin 128, q (ix4 0 i h d) * k (ix4 0 j h d)) * scale) (Ideal.ofBits .f32 0xFF800000#32) := by
  pointwise [scoreT, dot_S1x2048x64x128_S1x2048x64x128_S1x64x2048x2048_3_3_1_1_02_02, id_eq]

/-- An exponential. -/
theorem expT_apply (s : FVec Ideal S1x64x2048x2048 .f32) (h : Fin 64) (i j : Fin 2048) :
    expT s (ix4 0 h i j) = Ideal.exp (s (ix4 0 h i j) - Finset.univ.fold max (Ideal.ofBits .f32 0xFF800000#32) fun k => s (ix4 0 h i k)) := by
  pointwise [expT]

/-- Whether a row attends to some column. -/
theorem keepT_apply (M : IVec S2048x2048 1) (i : Fin 2048) : keepT M (ix1 i) = Finset.univ.fold IntOp.ori 0#1 fun k => M (ix2 i k) := by
  pointwise [keepT]

/-- A weight, in a row that attends to some column. -/
theorem weightT_apply (K : IVec S2048 1) (p : FVec Ideal S1x64x2048x2048 .f32) (h : Fin 64) (i j : Fin 2048) (hK : K (ix1 i) = 1#1) :
    weightT K p (ix4 0 h i j) = Ideal.div (p (ix4 0 h i j)) (∑ k : Fin 2048, p (ix4 0 h i k)) := by
  pointwise [weightT, hK]

/-- An entry of a head's mix. -/
theorem mixT_apply (v : FVec Ideal S1x2048x64x128 .bf16) (w : FVec Ideal S1x64x2048x2048 .f32) (i : Fin 2048) (h : Fin 64) (d : Fin 128) :
    mixT v w (ix3 0 i ⟨h.val * 128 + d.val, by omega⟩) = ∑ j : Fin 2048, w (ix4 0 h i j) * v (ix4 0 j h d) := by
  have e : ∀ n : Fin 8192, mixT v w (ix3 0 i n) = ∑ j : Fin 2048, v (ix4 0 j ⟨n.val / 128, by omega⟩ ⟨n.val % 128, by omega⟩)
      * w (ix4 0 ⟨n.val / 128, by omega⟩ i j) := fun n => by
    pointwise [mixT, dot_S1x2048x64x128_S1x64x2048x2048_S1x64x128x2048_1_3_3_2_02_01]
  rw [e]
  refine Finset.sum_congr rfl fun j _ => ?_
  rw [mul_comm]
  congr 3 <;> (apply Fin.ext; simp only []; omega)

/-- An entry of the projection, summed over heads and their entries. -/
theorem outT_apply (o : FVec Ideal S1x2048x8192 .f32) (wo : FVec Ideal S8192x1024 .bf16) (i : Fin 2048) (n : Fin 1024) :
    outT o wo (ix3 0 i n) = ∑ h : Fin 64, ∑ d : Fin 128, o (ix3 0 i ⟨h.val * 128 + d.val, by omega⟩) * wo (ix2 ⟨h.val * 128 + d.val, by omega⟩ n) := by
  have e : outT o wo (ix3 0 i n) = ∑ k : Fin 8192, o (ix3 0 i k) * wo (ix2 k n) := by
    pointwise [outT, dot_S1x2048x8192_S8192x1024_S1x2048x1024_2_0_01_1_n_n]
  rw [e, Fin.sum_univ_tiles 64 128 rfl]

/-- The reference's result over whole tensors, cut at its intermediate ones. -/
def resT (x : FVec Ideal S1x2048x1024 .bf16) (wq : FVec Ideal S1024x8192 .bf16) (k v : FVec Ideal S1x2048x64x128 .bf16)
    (wo : FVec Ideal S8192x1024 .bf16) : FVec Ideal S1x2048x1024 .f32 :=
  outT (mixT v (weightT (keepT maskT) (expT (scoreT maskT (queryT x wq) k)))) wo

set_option maxRecDepth 8192 in
/-- The reference's result is the composition of the stages. -/
theorem res_eq (m : (ℓ : Loc nD τ sig) → Buf (Elt Ideal) ℓ) (c : Dev nD) :
    res_main_v47 m c = resT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- Every row attends to itself. -/
theorem keep_all (i : Fin 2048) : keepT maskT (ix1 i) = 1#1 := by
  rw [keepT_apply, fold_ori i]
  rw [maskT_apply, decide_eq_true (Or.inl ⟨by omega, by omega⟩)]; rfl

/-- The reference's entry `(i, n)`: the heads' shares, summed. -/
theorem resT_apply (x : FVec Ideal S1x2048x1024 .bf16) (wq : FVec Ideal S1024x8192 .bf16) (k v : FVec Ideal S1x2048x64x128 .bf16)
    (wo : FVec Ideal S8192x1024 .bf16) (i : Fin 2048) (n : Fin 1024) :
    resT x wq k v wo (ix3 0 i n) = ∑ h : Fin 64, head (fun e => x (ix3 0 i e)) (fun e d => wq (ix2 e ⟨h.val * 128 + d.val, by omega⟩))
      (fun j d => k (ix4 0 j h d)) (fun j d => v (ix4 0 j h d)) (fun d => wo (ix2 ⟨h.val * 128 + d.val, by omega⟩ n)) i.val := by
  unfold resT head mix
  rw [outT_apply]
  refine Finset.sum_congr rfl fun h _ => Finset.sum_congr rfl fun d _ => congrArg₂ (· * ·) ?_ rfl
  rw [mixT_apply]
  refine Finset.sum_congr rfl fun j _ => congrArg₂ (· * ·) ?_ rfl
  have es : ∀ j, scoreT maskT (queryT x wq) k (ix4 0 h i j) = score (fun e => x (ix3 0 i e))
      (fun e d => wq (ix2 e ⟨h.val * 128 + d.val, by omega⟩)) (fun j d => k (ix4 0 j h d)) i.val j := fun j => by
    rw [scoreT_apply, maskT_apply, select_ofBool, minus_inf]
    simp only [queryT_apply, score]
  rw [weightT_apply _ _ _ _ _ (keep_all i)]
  simp only [expT_apply, es, minus_inf]
  rfl

end Cert.ReferenceIdeal.Value

end
-- ==== Proof.Algebra.lean ====
/-
  In exact arithmetic, on finite rows, query weights and keys, every device ends with the reference's result.
-/
module

public import proofs.«01_k».proof.Proof.Share
public import proofs.«01_k».proof.Proof.Total
public import proofs.«01_k».proof.Proof.HostReads
public import proofs.«01_k».proof.Proof.RefRead
public import proofs.«01_k».proof.Defs
public import Idealize.ShloMosaic.Lib.LayoutAt

@[expose] public section

noncomputable section

namespace Cert.KernelIdeal.Run

open Idealize.ShloMosaic
open Idealize.ShloMosaic.TcCoe
open Idealize.SL.Sem
open Cert.KernelIdeal Cert.KernelIdeal.Gen Cert.KernelIdeal.Halving Cert.KernelIdeal.Attend Cert.Spec

variable (m : (ℓ : Loc nD τ sig) → Buf (Elt Ideal) ℓ)

/-- The number of device c's head h among all 64. -/
abbrev headNo (c : Dev nD) (h : Fin 8) : Fin 64 := ⟨c.val * 8 + h.val, by have : c.val < 8 := c.isLt; omega⟩

/-- What the reference makes of the whole arrays, head by head. -/
def share (x : Vec Ideal S1x2048x1024 .bf16) (wq : Vec Ideal S1024x8192 .bf16) (k v : Vec Ideal ⟨4, ![1, 2048, 64, 128]⟩ .bf16) (wo : Vec Ideal S8192x1024 .bf16)
    (i : Fin 2048) (n : Fin 1024) (h : Fin 64) : EReal :=
  head (fun e => x (ix3 0 i e)) (fun e d => wq (ix2 e ⟨h.val * 128 + d.val, by omega⟩)) (fun j d => k (ix4 0 j h d)) (fun j d => v (ix4 0 j h d))
    (fun d => wo (ix2 ⟨h.val * 128 + d.val, by omega⟩ n)) i.val

/-- Device c's block of the heads, at coordinates. -/
theorem block_apply (c : Dev nD) (k : Vec Ideal ⟨4, ![1, 2048, 64, 128]⟩ .bf16) (j : Fin 2048) (h : Fin 8) (d : Fin 128) :
    (Layout.block ⟨4, ![1, 2048, 8, 128]⟩ ⟨4, ![1, 2048, 64, 128]⟩ 2 8 c k : Vec Ideal S1x2048x8x128 .bf16) (ix4 0 j h d) = k (ix4 0 j (headNo c h) d) := by
  shard_ext

/-- The devices' arguments are the whole arrays: the keys and values cut by heads, the rest entire. -/
structure Shards (x : Vec Ideal S1x2048x1024 .bf16) (wq : Vec Ideal S1024x8192 .bf16) (k v : Vec Ideal ⟨4, ![1, 2048, 64, 128]⟩ .bf16) (wo : Vec Ideal S8192x1024 .bf16) : Prop where
  x : ∀ c, argX m c = x
  wq : ∀ c, argWq m c = wq
  k : ∀ c, argK m c = Layout.block ⟨4, ![1, 2048, 8, 128]⟩ ⟨4, ![1, 2048, 64, 128]⟩ 2 8 c k
  v : ∀ c, argV m c = Layout.block ⟨4, ![1, 2048, 8, 128]⟩ ⟨4, ![1, 2048, 64, 128]⟩ 2 8 c v
  wo : ∀ c, argWo m c = wo

variable {m} {x : Vec Ideal S1x2048x1024 .bf16} {wq : Vec Ideal S1024x8192 .bf16} {k v : Vec Ideal ⟨4, ![1, 2048, 64, 128]⟩ .bf16} {wo : Vec Ideal S8192x1024 .bf16}

/-- A device's head is the whole arrays' head of its number. -/
theorem part_eq (S : Shards m x wq k v wo) (c : Dev nD) (h : Fin 8) (i : Fin 2048) (n : Fin 1024) :
    part (V1 m) c h i n = share x wq k v wo i n (headNo c h) := by
  have e : ∀ d : Fin 128, c.val * 1024 + (lane h d).val = (headNo c h).val * 128 + d.val := fun d => by
    show c.val * 1024 + (128 * h.val + d.val) = (c.val * 8 + h.val) * 128 + d.val
    omega
  unfold part share
  congr 1
  · funext e'
    rw [← S.x c]; exact rows_at m c i e'
  · funext e' d
    rw [← S.wq c]; refine (queries_at m c e' (lane h d)).trans ?_
    simp only [e]
  · funext j d
    exact (keys_at m c h j d).trans ((congrFun (S.k c) _).trans (block_apply c k j h d))
  · funext j d
    exact (values_at m c h j d).trans ((congrFun (S.v c) _).trans (block_apply c v j h d))
  · funext d
    rw [← S.wo c]; refine (outputs_at m c (lane h d) n).trans ?_
    simp only [e]

/-- Every device ends with the sum of the 64 heads' shares. -/
theorem result_eq (S : Shards m x wq k v wo) (hx : ∀ i e, Finite (x (ix3 0 i e))) (hw : ∀ e d, Finite (wq (ix2 e d)))
    (hk : ∀ c j h d, Finite (argK m c (ix4 0 j h d))) (c : Dev nD) (i : Fin 2048) (n : Fin 1024) :
    (V4 m (outs m) c main_v22 : Vec Ideal S1x2048x1024 .f32) (ix3 0 i n) = ∑ h : Fin 64, share x wq k v wo i n h := by
  have tame : ∀ d, Tame (V1 m) d := fun d => ⟨fun i e => by have := rows_at m d i e; rw [S.x d] at this; exact this ▸ hx i e,
    fun e j => by have := queries_at m d e j; rw [S.wq d] at this; exact this ▸ hw e _,
    fun h j e => by have := keys_at m d h j e; exact this ▸ hk d j h e⟩
  rw [result_at, V3_eq m c, show late m c main_v21 = held (brought (mid m)) 6 c from after1_out (mid m) c]
  refine (held_total _ c _).trans ?_
  refine Eq.trans ?_ (Fin.sum_univ_tiles 8 8 rfl _).symm
  refine Finset.sum_congr rfl fun d _ => ?_
  refine (congrFun (show brought (mid m) d = shareOf (V1 m) d from Function.update_self _ _ _) _).trans ?_
  refine (shareOf_apply (V1 m) d (tame d) i n).trans ?_
  exact Finset.sum_congr rfl fun h _ => part_eq S d h i n

/-- A number below the type's infinity in magnitude is a real number. -/
theorem finite_of_cmp (a : EReal) (h : Ideal.cmp .olt (max a (-a)) (Ideal.ofBits .bf16 0x7F80#16) = 1#1) : Finite a := by
  have htop : Ideal.ofBits .bf16 0x7F80#16 = ⊤ := by simp [Ideal.ofBits, Ideal.ieee]
  rw [htop] at h
  induction a using EReal.rec with
  | bot => simp [Ideal.cmp] at h
  | coe r => exact ⟨r, rfl⟩
  | top => simp [Ideal.cmp] at h

/-- The precondition's shape relations, at one device's shapes. -/
theorem facts_kernel : Cert.Pre_finite_KernelIdeal.Facts := ⟨by decide, by decide, by decide⟩
/-- The precondition's shape relations, at the whole arrays' shapes. -/
theorem facts_reference : Cert.Pre_finite_ReferenceIdeal.Facts := ⟨by decide, by decide, by decide⟩

/-- The precondition, element by element. -/
theorem finite_args [Cert.Pre_finite_KernelIdeal.Facts] (h : Cert.Pre_KernelIdeal_finite_KernelIdeal m) (c : Dev nD) :
    (∀ i e, Finite (argX m c (ix3 0 i e))) ∧ (∀ e d, Finite (argWq m c (ix2 e d))) ∧ ∀ j h d, Finite (argK m c (ix4 0 j h d)) :=
  ⟨fun i e => finite_of_cmp _ (congrFun (h c).1 (ix3 0 i e)), fun e d => finite_of_cmp _ (congrFun (h c).2.1 (ix2 e d)),
    fun j g d => finite_of_cmp _ (congrFun (h c).2.2 (ix4 0 j g d))⟩

/-- The result's first axis has length one. -/
theorem index_first (p : S1x2048x1024.Idx) : p = ix3 0 (p 1) (p 2) :=
  (eq_ix3 p).trans (congrArg (fun a : Fin 1 => (ix3 a (p 1) (p 2) : S1x2048x1024.Idx)) (Subsingleton.elim (α := Fin 1) (p 0) 0))

/-- In exact arithmetic the kernel and the reference, on the same finite inputs, leave the same result. -/
theorem agreed [Cert.Pre_finite_KernelIdeal.Facts] : Cert.algebraic_KernelIdeal_ReferenceIdeal_pre_finite_KernelIdeal := by
  intro m g m' g' hpre hag
  have S : Shards m _ _ _ _ _ := ⟨fun c => (hag c).1, fun c => (hag c).2.1, fun c => (hag c).2.2.1, fun c => (hag c).2.2.2.1, fun c => (hag c).2.2.2.2⟩
  have fin := finite_args hpre
  refine ⟨Cert.ReferenceIdeal.Value.res_main_v47 m' 0, ?_, ?_⟩
  · refine (θ_run Cert.KernelIdeal.defs _ _).mono (fun r h c => ⟨(h.1 c).1.trans ?_, (h.1 c).2⟩) (run_main m g)
    rw [Cert.ReferenceIdeal.Value.res_eq]
    funext p
    rw [index_first p]
    refine (result_eq S (fun i e => by rw [← S.x c]; exact (fin c).1 i e) (fun e d => by rw [← S.wq c]; exact (fin c).2.1 e d) (fun c => (fin c).2.2) c _ _).trans ?_
    exact (Cert.ReferenceIdeal.Value.resT_apply _ _ _ _ _ _ _).symm
  · exact (θ_run Cert.ReferenceIdeal.defs _ _).mono (fun _ h => ⟨(h 0).1, (h 0).2⟩) (Cert.ReferenceIdeal.Value.run (F := Ideal) m' g')

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel and its idealization run and restore what they found, so does the reference; the idealization keeps the kernel's
    communication; and on finite rows, query weights and keys the idealization's result is the reference's. -/
theorem claim : Cert.Claim :=
  have := Cert.KernelIdeal.Run.facts_kernel
  ⟨Cert.Kernel.Gen.facts, Cert.KernelIdeal.Gen.facts, Cert.ReferenceIdeal.Gen.facts, Cert.KernelIdeal.Run.facts_kernel, Cert.KernelIdeal.Run.facts_reference,
    Cert.KernelIdeal.Run.frame_kernel, Cert.KernelIdeal.Run.frame_ideal, fun m g _ => Cert.KernelIdeal.Run.frame_ideal m g trivial,
    Cert.KernelIdeal.Run.frame_reference, fun m g _ => Cert.KernelIdeal.Run.frame_reference m g trivial,
    Cert.KernelIdeal.Run.preserved, Cert.KernelIdeal.Run.agreed⟩

end Cert.Proof

end
